-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S256x1024 : Shape := ⟨2, ![256, 1024]⟩
abbrev S3x1x1024 : Shape := ⟨3, ![3, 1, 1024]⟩
abbrev S3 : Shape := ⟨1, ![3]⟩
abbrev S_ : Shape := ⟨0, ![]⟩
abbrev S1024 : Shape := ⟨1, ![1024]⟩
abbrev S1 : Shape := ⟨1, ![1]⟩
abbrev S1x1x1024 : Shape := ⟨3, ![1, 1, 1024]⟩

abbrev nBuf : Space → Nat
  | .hbm => 2
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024, .bf16⟩
  | .local _ .vmem, ⟨3, _⟩ => ⟨S1x1024, .bf16⟩
  | .local _ .vmem, ⟨4, _⟩ => ⟨S3x1x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v20 : BitVec 32 := Scalar.addi v2 c1_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_15 : BitVec 32 := 1#32
  let v31 : BitVec 32 := Scalar.muli v30 c1_i32_15
  let v32 : BitVec 32 := Scalar.addi c0_i32_16 v31
  v32.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v33 : BitVec 32 := Scalar.addi v2 c2_i32
  let c4_i32_17 : BitVec 32 := 4#32
  let c0_i32_18 : BitVec 32 := 0#32
  let v34 : BitVec 1 := Scalar.cmpi .eq c4_i32_17 c0_i32_18
  let c1_i32_19 : BitVec 32 := 1#32
  let v35 : BitVec 32 := Scalar.select v34 c1_i32_19 c4_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c1_i32_24 : BitVec 32 := 1#32
  let v44 : BitVec 32 := Scalar.muli v43 c1_i32_24
  let v45 : BitVec 32 := Scalar.addi c0_i32_25 v44
  v45.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v46 : BitVec 32 := Scalar.addi v2 c3_i32
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c1_i32_33 : BitVec 32 := 1#32
  let v57 : BitVec 32 := Scalar.muli v56 c1_i32_33
  let v58 : BitVec 32 := Scalar.addi c0_i32_34 v57
  v58.toNat
def k0_cond4 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_6 : BitVec 32 := 0#32
  let v19 : BitVec 1 := Scalar.cmpi .ne v18 c0_i32_6
  v19

def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v20 : BitVec 32 := Scalar.addi v2 c1_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_17 : BitVec 32 := 1#32
  let v31 : BitVec 32 := Scalar.muli v30 c1_i32_17
  let v32 : BitVec 32 := Scalar.addi c0_i32_18 v31
  v32.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v39 : BitVec 32 := Scalar.addi v2 c2_i32
  let c4_i32_21 : BitVec 32 := 4#32
  let c0_i32_22 : BitVec 32 := 0#32
  let v40 : BitVec 1 := Scalar.cmpi .eq c4_i32_21 c0_i32_22
  let c1_i32_23 : BitVec 32 := 1#32
  let v41 : BitVec 32 := Scalar.select v40 c1_i32_23 c4_i32_21
  let v42 : BitVec 32 := Scalar.remsi v39 v41
  let c0_i32_25 : BitVec 32 := 0#32
  let v44 : BitVec 1 := Scalar.cmpi .slt v42 c0_i32_25
  let c0_i32_26 : BitVec 32 := 0#32
  let v45 : BitVec 1 := Scalar.cmpi .slt v41 c0_i32_26
  let v46 : BitVec 1 := Scalar.xori v44 v45
  let c0_i32_24 : BitVec 32 := 0#32
  let v43 : BitVec 1 := Scalar.cmpi .ne v42 c0_i32_24
  let v47 : BitVec 1 := Scalar.andi v46 v43
  let v48 : BitVec 32 := Scalar.addi v42 v41
  let v49 : BitVec 32 := Scalar.select v47 v48 v42
  let c1_i32_30 : BitVec 32 := 1#32
  let v50 : BitVec 32 := Scalar.muli v49 c1_i32_30
  let v51 : BitVec 32 := Scalar.addi c0_i32_31 v50
  v51.toNat
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v58 : BitVec 32 := Scalar.addi v2 c3_i32_34
  let c4_i32_35 : BitVec 32 := 4#32
  let c0_i32_36 : BitVec 32 := 0#32
  let v59 : BitVec 1 := Scalar.cmpi .eq c4_i32_35 c0_i32_36
  let c1_i32_37 : BitVec 32 := 1#32
  let v60 : BitVec 32 := Scalar.select v59 c1_i32_37 c4_i32_35
  let v61 : BitVec 32 := Scalar.remsi v58 v60
  let c0_i32_39 : BitVec 32 := 0#32
  let v63 : BitVec 1 := Scalar.cmpi .slt v61 c0_i32_39
  let c0_i32_40 : BitVec 32 := 0#32
  let v64 : BitVec 1 := Scalar.cmpi .slt v60 c0_i32_40
  let v65 : BitVec 1 := Scalar.xori v63 v64
  let c0_i32_38 : BitVec 32 := 0#32
  let v62 : BitVec 1 := Scalar.cmpi .ne v61 c0_i32_38
  let v66 : BitVec 1 := Scalar.andi v65 v62
  let v67 : BitVec 32 := Scalar.addi v61 v60
  let v68 : BitVec 32 := Scalar.select v66 v67 v61
  let c1_i32_44 : BitVec 32 := 1#32
  let v69 : BitVec 32 := Scalar.muli v68 c1_i32_44
  let v70 : BitVec 32 := Scalar.addi c0_i32_45 v69
  v70.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S_, .bf16⟩
  | .hbm, ⟨2, _⟩ => ⟨S1024, .bf16⟩
  | .hbm, ⟨3, _⟩ => ⟨S1x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Protocol.lean ====
/-
# The exchange between the devices, written down

Each of the four devices folds its own eight blocks into one row `acc`, then every device sends that row to the three
others and folds in the three rows it receives. The devices are named by their distance from `c`: `up c i` is the device
`i + 1` places after `c`. Device `c` writes its row into slot `i` of the receive buffer of `up c i`, so slot `i` of `c` is
written by `up c i.rev`.

Nothing may be written into a slot before its owner has started. So at its first grid point every device raises the
barrier semaphore of the three others, and with each raise it lends the raised device the one slot that device will write.
At the last grid point a device waits for the three raises, sends its row three times (lending a quarter of `acc` to each
copy), waits for the three rows meant for it and then for its own three copies.

This module fixes the semaphores, what each of them carries (the schedule), what a device owes at each grid point and the
order in which the semaphores may be waited for (the levels).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's rounds and, beside them, the exchange's -/

/-- The exchange's own rounds, a duty being named by a number below three. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ)

/-! ## The devices -/

set_option backward.proofsInPublic true in
/-- The device `i + 1` places after `c`. -/
def up (c : Dev nD) (i : Fin 3) : Dev nD := ⟨(c.val + (i.val + 1)) % 4, Nat.mod_lt _ (by decide)⟩

/-- Going on by `i + 1` and then by `3 - i` is going once around. -/
theorem up_up_rev (c : Dev nD) (i : Fin 3) : up (up c i) i.rev = c := by revert c i; decide
theorem up_rev_up (c : Dev nD) (i : Fin 3) : up (up c i.rev) i = c := by revert c i; decide

/-- All devices shifted by `i + 1`. -/
def shift (i : Fin 3) : Dev nD ≃ Dev nD := ⟨(up · i), (up · i.rev), (up_up_rev · i), (up_rev_up · i)⟩

/-- The raises of the first grid point go to the devices one, two and three places on; -/
theorem dev1_eq (c : Dev nD) (h : k0_dev1 c < nD) : (⟨k0_dev1 c, h⟩ : Dev nD) = up c 0 :=
  Fin.ext ((by decide +kernel : ∀ c : Dev nD, k0_dev1 c = (up c 0).val) c)
theorem dev2_eq (c : Dev nD) (h : k0_dev2 c < nD) : (⟨k0_dev2 c, h⟩ : Dev nD) = up c 1 :=
  Fin.ext ((by decide +kernel : ∀ c : Dev nD, k0_dev2 c = (up c 1).val) c)
theorem dev3_eq (c : Dev nD) (h : k0_dev3 c < nD) : (⟨k0_dev3 c, h⟩ : Dev nD) = up c 2 :=
  Fin.ext ((by decide +kernel : ∀ c : Dev nD, k0_dev3 c = (up c 2).val) c)
/-- and so do the copies of the last. -/
theorem dev4_eq (c : Dev nD) (h : k0_dev4 c < nD) : (⟨k0_dev4 c, h⟩ : Dev nD) = up c 0 :=
  Fin.ext ((by decide +kernel : ∀ c : Dev nD, k0_dev4 c = (up c 0).val) c)
theorem dev5_eq (c : Dev nD) (h : k0_dev5 c < nD) : (⟨k0_dev5 c, h⟩ : Dev nD) = up c 1 :=
  Fin.ext ((by decide +kernel : ∀ c : Dev nD, k0_dev5 c = (up c 1).val) c)
theorem dev6_eq (c : Dev nD) (h : k0_dev6 c < nD) : (⟨k0_dev6 c, h⟩ : Dev nD) = up c 2 :=
  Fin.ext ((by decide +kernel : ∀ c : Dev nD, k0_dev6 c = (up c 2).val) c)

/-! ## The buffers -/

/-- The running maximum, and the receive buffer with its three slots. -/
abbrev accM : Memref sig .tc .vmem S1x1024 .bf16 := Memref.whole cc0_scratch0
abbrev commM : Memref sig .tc .vmem S3x1x1024 .bf16 := Memref.whole cc0_scratch1

theorem slot_inb (i : Fin 3) (a : Fin 3) : (![i.val, 0, 0] : Fin 3 → ℕ) a + S1x1x1024.size a ≤ S3x1x1024.size a := by
  revert i a; decide

/-- The elements of slot `i`, and the slot as a row. -/
abbrev slotR (i : Fin 3) : Rect S3x1x1024 := Rect.unit (s := S3x1x1024) ![i.val, 0, 0] S1x1x1024.size (slot_inb i)
abbrev slotM (i : Fin 3) : Memref sig .tc .vmem S1x1024 .bf16 :=
  (commM.slice (slotR i) (fun _ => rfl)).squeeze S1x1024 squeezes_S1x1x1024_S1x1024

/-- A share of `c`'s running maximum, holding the row `f`; -/
def accPts (c : Dev nD) (q : PosShare TreeShare) (f : Vec F S1x1024 .bf16) : sProp 𝕄 :=
  accM.view.loc (c : Thread nD τ) ↦[accM.view.set]{q} f
/-- slot `i` of `c`'s receive buffer, whose elements `f` tells. -/
def slotPts (c : Dev nD) (i : Fin 3) (f : Vec F S3x1x1024 .bf16) : sProp 𝕄 :=
  (slotM i).view.loc (c : Thread nD τ) ↦[(slotM i).view.set]{fullShare} f

omit [FloatOps F] in
instance accPts_storable (c : Dev nD) (q) (f) : BI.Storable (upEmb : UEmb _ 𝕄) (accPts (F := F) c q f) := by unfold accPts; infer_instance
omit [FloatOps F] in
instance slotPts_storable (c : Dev nD) (i) (f) : BI.Storable (upEmb : UEmb _ 𝕄) (slotPts (F := F) c i f) := by unfold slotPts; infer_instance

/-- The receive buffer `fd` once the row `w` has been copied into slot `i`. -/
def landed (i : Fin 3) (fd : Vec F S3x1x1024 .bf16) (w : Vec F S1x1024 .bf16) : Vec F S3x1x1024 .bf16 :=
  (slotM i).view.write (Elt F) fd w Finset.univ

/-- Slot `i` of `c` with the row `w` in it, whatever the rest of the buffer reads. -/
def slotHas (c : Dev nD) (i : Fin 3) (w : Vec F S1x1024 .bf16) : sProp 𝕄 := iprop(∃ fd, slotPts c i (landed i fd w))

/-- The four quarters of `acc`: quarter `i` is lent to copy `i`, the last is kept for reading meanwhile. -/
abbrev lent (i : Fin 3) : PosShare TreeShare := ShareLeaves.leaf 2 fullShare ⟨i.val, by have := i.isLt; omega⟩
abbrev kept : PosShare TreeShare := ShareLeaves.leaf 2 fullShare ⟨3, by decide⟩

/-! ## What the buffers hold -/

/-- The block of the input device `c` reads at point `k`. -/
def xblk (c : Dev nD) (k : ℕ) : Vec F S256x1024 .bf16 :=
  iblk m c (0 : Fin 2) (⟨k % 8, (Nat.mod_lt _ (by decide)).trans_eq N_0.symm⟩ : Fin cfg0.N)

/-- The running maximum of device `c` after point `k`. -/
def part (c : Dev nD) : ℕ → Vec F S1x1024 .bf16
  | 0 => k0_pay2 (xblk m c 0)
  | k + 1 => k0_pay3 (xblk m c (k + 1)) (part c k)

/-- The row device `c` sends: its running maximum after the last point. -/
abbrev row (c : Dev nD) : Vec F S1x1024 .bf16 := part m c 7

/-- The row as a slot of the receive buffer is read: one axis of length one more. -/
def asSlot (w : Vec F S1x1024 .bf16) : Vec F S1x1x1024 .bf16 :=
  fun y => w ((Shape.reshapeEquiv squeezes_S1x1x1024_S1x1024.numel_eq).symm y)

/-- The result on device `c`: its own row and the three received, from the devices three, one and two places on. -/
def outRow (c : Dev nD) : Vec F S1x1024 .bf16 :=
  k0_pay4 (row m c) (asSlot (row m (up c 2))) (asSlot (row m (up c 0))) (asSlot (row m (up c 1)))

/-! ## The semaphores -/

abbrev barS : Sem sig := (SemArray.scalar (sig.barrier 0 rfl) : Sems sig S_).sem
set_option backward.proofsInPublic true in
/-- The semaphore of copy `i` at its sender, and that of slot `i` at its receiver. -/
def sendS (i : Fin 3) : DmaSem sig := (⟨3 + i.val, by have := i.isLt; omega⟩ : Fin 9)
set_option backward.proofsInPublic true in
def recvS (i : Fin 3) : DmaSem sig := (⟨6 + i.val, by have := i.isLt; omega⟩ : Fin 9)

/-- A device's seven semaphores: the barrier, the three of its copies, the three of its slots. -/
abbrev Sm : Type := Unit ⊕ Fin 3 ⊕ Fin 3
abbrev bar : Sm := .inl ()
abbrev snd (i : Fin 3) : Sm := .inr (.inl i)
abbrev rcv (i : Fin 3) : Sm := .inr (.inr i)

def loc : Sm → SemLoc sig
  | .inl _ => .reg barS
  | .inr (.inl i) => .dma (sendS i)
  | .inr (.inr i) => .dma (recvS i)

set_option backward.proofsInPublic true in
/-- Which of the seven a semaphore is, if any. -/
def which : SemLoc sig → Option Sm
  | .reg s => if s = barS then some bar else none
  | .dma q =>
    if q = sendS 0 then some (snd 0) else if q = sendS 1 then some (snd 1) else if q = sendS 2 then some (snd 2)
    else if q = recvS 0 then some (rcv 0) else if q = recvS 1 then some (rcv 1) else if q = recvS 2 then some (rcv 2)
    else none

theorem which_loc (k : Sm) : which (loc k) = some k := by revert k; decide
theorem loc_injective : Function.Injective loc := fun k k' h => by
  have := which_loc k; rw [h, which_loc] at this; exact (Option.some.inj this).symm

/-- Semaphore `k` of device `c`. -/
def cell (c : Dev nD) (k : Sm) : GSem nD τ sig := ((c : Thread nD τ), loc k)

theorem cell_injective : Function.Injective fun ck : Dev nD × Sm => cell ck.1 ck.2 := by
  rintro ⟨c, k⟩ ⟨c', k'⟩ h
  have h1 : c = c' := congrArg (fun g : GSem nD τ sig => g.1.1) h
  have h2 : k = k' := loc_injective (congrArg Prod.snd h)
  rw [h1, h2]

/-- What one copy of a row adds to a semaphore. -/
abbrev N : ℕ := accM.view.dmaCredit
theorem N_pos : 0 < N := View.dmaCredit_pos _ (by decide)

/-! ## The schedule -/

/-- What each duty brings. Duty `i` of the barrier of `c` is the raise by `up c i`: it lends `c` the slot of `up c i` that
    `c` writes, slot `i`, and tells that the slot's semaphore is at its start. The semaphore of copy `i` brings back the
    quarter lent to it, that of slot `i` brings the slot with the row of the device that writes it. -/
def pay (c : Dev nD) : Sm → Fin 3 → sProp 𝕄
  | .inl _, i => iprop((∃ f, slotPts (up c i) i f) ∗ reached ER (cell (up c i) (rcv i)) 0)
  | .inr (.inl i), _ => accPts c (lent i) (row m c)
  | .inr (.inr i), _ => slotHas c i (row m (up c i.rev))

instance pay_storable (c : Dev nD) (k : Sm) (d : Fin 3) : BI.Storable (upEmb : UEmb _ 𝕄) (pay m c k d) := by
  rcases k with _ | i | i <;> unfold pay <;> (try unfold slotHas) <;> infer_instance

def duties' : Sm → Finset (Fin 3)
  | .inl _ => Finset.univ
  | .inr _ => {0}
def amount' : Sm → ℕ
  | .inl _ => 1
  | .inr _ => N
theorem amount'_pos (k : Sm) : 0 < amount' k := by
  rcases k with _ | k
  · exact Nat.one_pos
  · exact N_pos

/-- The schedule: one round; three raises of one unit at a barrier, one row's credit at each of the other six. -/
def Rd : Rounds.Schedule (GSem nD τ sig) (Fin 3) 𝕄 where
  duties g r := if r = 0 ∧ g.1.2 = .tc then (which g.2).elim ∅ duties' else ∅
  unitless _ := False
  amount g _ _ := (which g.2).elim 1 amount'
  payload g _ d := (which g.2).elim iprop(emp) fun k => pay m g.1.1 k d
  amount_pos g _ _ _ := by
    cases which g.2 with
    | none => exact Nat.one_pos
    | some k => exact amount'_pos k

instance Rd_storable (g : GSem nD τ sig) (r : ℕ) (d : Fin 3) : BI.Storable (upEmb : UEmb _ 𝕄) ((Rd (F := F) m).payload g r d) := by
  show BI.Storable upEmb ((which g.2).elim iprop(emp) fun k => pay m g.1.1 k d)
  cases which g.2 <;> dsimp only [Option.elim] <;> infer_instance

theorem Rd_duties (c : Dev nD) (k : Sm) : (Rd (F := F) m).duties (cell c k) 0 = duties' k := by
  dsimp only [Rd, cell]; rw [if_pos ⟨rfl, rfl⟩, which_loc]; rfl
theorem Rd_later (g : GSem nD τ sig) (r : ℕ) (hr : 1 ≤ r) : (Rd (F := F) m).duties g r = ∅ :=
  if_neg fun h => by omega
theorem Rd_amount (c : Dev nD) (k : Sm) (d : Fin 3) : (Rd (F := F) m).amount (cell c k) 0 d = amount' k := by
  dsimp only [Rd, cell]; rw [which_loc]; rfl
theorem Rd_payload (c : Dev nD) (k : Sm) (d : Fin 3) : (Rd (F := F) m).payload (cell c k) 0 d = pay m c k d := by
  dsimp only [Rd, cell]; rw [which_loc]; rfl

/-- A barrier expects three units, the others one row's credit. -/
theorem Rd_expect_bar (c : Dev nD) : (Rd (F := F) m).expect (cell c bar) 0 = 3 := by
  unfold Schedule.expect Schedule.amountOf
  rw [Rd_duties, Finset.sum_congr rfl fun d _ => Rd_amount m c bar d]; rfl
theorem Rd_expect_dma (c : Dev nD) (k : Fin 3 ⊕ Fin 3) : (Rd (F := F) m).expect (cell c (.inr k)) 0 = N := by
  unfold Schedule.expect Schedule.amountOf
  rw [Rd_duties]; show ∑ d ∈ {0}, _ = _; rw [Finset.sum_singleton, Rd_amount]; rfl

/-- All three raises together bring the three slots to write; -/
theorem Rd_all_bar (c : Dev nD) : bigSep ((Rd (F := F) m).duties (cell c bar) 0 \ ∅) (fun d => (Rd (F := F) m).payload (cell c bar) 0 d)
    = bigSep Finset.univ fun i => pay m c bar i := by
  rw [Finset.sdiff_empty, Rd_duties]; exact bigSep_congr fun d _ => Rd_payload m c bar d
/-- the one duty of a copy's or a slot's semaphore brings what it says. -/
theorem Rd_all_dma (c : Dev nD) (k : Fin 3 ⊕ Fin 3) : bigSep ((Rd (F := F) m).duties (cell c (.inr k)) 0 \ ∅) (fun d => (Rd (F := F) m).payload (cell c (.inr k)) 0 d)
    = pay m c (.inr k) 0 := by
  rw [Finset.sdiff_empty, Rd_duties]; show bigSep {0} _ = _; rw [bigSep_singleton, Rd_payload]

/-! ## What is owed, and the levels -/

/-- The payments of device `c`, last first: the three copies, then the three raises. -/
def payee (c : Dev nD) : ℕ → GSem nD τ sig × ℕ
  | 0 => (cell (up c 2) (rcv 2), N)
  | 1 => (cell (up c 1) (rcv 1), N)
  | 2 => (cell (up c 0) (rcv 0), N)
  | 3 => (cell (up c 2) bar, 1)
  | 4 => (cell (up c 1) bar, 1)
  | _ => (cell (up c 0) bar, 1)

/-- What `c` owes when its last `n` payments are still to be made. -/
def due (c : Dev nD) : ℕ → CellTallies nD τ sig Unit
  | 0 => 0
  | n + 1 => due c n + tallyAt (payee c n).1 () (payee c n).2

def L (g : GSem nD τ sig) : Finset Unit := if g.1.2 = .tc then {()} else ∅
/-- Barriers first, the slots' semaphores above them, everything else at the bottom. -/
def lv (g : GSem nD τ sig) (_ : Unit) : ℕ := (which g.2).elim 0 fun k => match k with
  | .inl _ => 1
  | .inr (.inl _) => 0
  | .inr (.inr _) => 2

theorem lv_cell (c : Dev nD) : (k : Sm) → lv (cell c k) () = match k with | .inl _ => 1 | .inr (.inl _) => 0 | .inr (.inr _) => 2
  | .inl _ | .inr (.inl _) | .inr (.inr _) => by unfold lv; rw [show (cell c _).2 = loc _ from rfl, which_loc]; rfl

theorem L_off (g : GSem nD τ sig) (h : g.1.2 ≠ .tc) : L g = ∅ := if_neg h
theorem L_tc (c : Dev nD) (sm : SemLoc sig) : L ((c : Thread nD τ), sm) = {()} := if_pos rfl

theorem due_pos {c : Dev nD} {g : GSem nD τ sig} {u : Unit} : ∀ {n : ℕ}, 0 < due c n g u → ∃ k < n, g = (payee c k).1
  | 0, h => absurd h (Nat.lt_irrefl 0)
  | n + 1, h => by
    unfold due at h
    rw [Pi.add_apply, Finsupp.add_apply, tallyAt_apply] at h
    by_cases hg : g = (payee c n).1 ∧ u = ()
    · exact ⟨n, Nat.lt_succ_self n, hg.1⟩
    · rw [if_neg hg, Nat.add_zero] at h
      obtain ⟨k, hk, e⟩ := due_pos h
      exact ⟨k, Nat.lt_succ_of_lt hk, e⟩

theorem payee_L (c : Dev nD) : ∀ k : ℕ, () ∈ L (payee c k).1
  | 0 | 1 | 2 | 3 | 4 | _ + 5 => Finset.mem_singleton_self _
theorem payee_lv (c : Dev nD) : ∀ k : ℕ, 1 ≤ lv (payee c k).1 ()
  | 0 | 1 | 2 => (show 1 ≤ 2 by decide).trans_eq (lv_cell _ (rcv _)).symm
  | 3 | 4 | _ + 5 => (lv_cell _ bar).ge
theorem payee_lv_copy (c : Dev nD) : ∀ k < 3, 2 ≤ lv (payee c k).1 ()
  | 0, _ | 1, _ | 2, _ => (lv_cell _ (rcv _)).ge
  | _ + 3, h => absurd h (by omega)

/-- Whatever `c` still owes, it may wait for a semaphore at the bottom level; -/
theorem mayWait_low (c : Dev nD) (sm : SemLoc sig) (h : lv ((c : Thread nD τ), sm) () = 0) (n : ℕ) :
    (levAts L lv : sProp 𝕄) ⊢ MayWait (c : Thread nD τ) sm () (due c n) :=
  MayOwe.of_cut (L := L) (lev := lv) 0 (fun p hp => by rw [Finset.mem_singleton.mp hp, L_tc]; exact Finset.mem_singleton_self _)
    (fun g u hg => by obtain ⟨k, -, rfl⟩ := due_pos hg; exact payee_L c k)
    (fun p hp => by rw [Finset.mem_singleton.mp hp]; exact h.le)
    (fun g u hg => by obtain ⟨k, -, rfl⟩ := due_pos hg; exact payee_lv c k)

/-- owing only its copies it may wait at its barrier. -/
theorem mayWait_bar (c : Dev nD) : (levAts L lv : sProp 𝕄) ⊢ MayWait (c : Thread nD τ) (loc bar) () (due c 3) :=
  MayOwe.of_cut (L := L) (lev := lv) 1 (fun p hp => by rw [Finset.mem_singleton.mp hp, L_tc]; exact Finset.mem_singleton_self _)
    (fun g u hg => by obtain ⟨k, -, rfl⟩ := due_pos hg; exact payee_L c k)
    (fun p hp => by rw [Finset.mem_singleton.mp hp]; dsimp only [lv]; rw [which_loc]; exact le_refl 1)
    (fun g u hg => by obtain ⟨k, hk, rfl⟩ := due_pos hg; exact payee_lv_copy c k hk)

/-! ## What a device holds between two grid points -/

/-- What everyone knows: every semaphore's record, under the name it has in `K`, and that each is at its start. -/
def known (K : Dev nD × Sm → ℕ) : sProp 𝕄 :=
  iprop((bigSep Finset.univ fun ck : Dev nD × Sm => cellInv ER (Rd m) (K ck) (cell ck.1 ck.2))
    ∗ bigSep Finset.univ fun ck : Dev nD × Sm => reached ER (cell ck.1 ck.2) 0)

instance known_persistent (K : Dev nD × Sm → ℕ) : BI.Persistent (known m K) := by unfold known; infer_instance

theorem known_inv (K : Dev nD × Sm → ℕ) (c : Dev nD) (k : Sm) : known m K ⊢ cellInv ER (Rd m) (K (c, k)) (cell c k) := by
  unfold known
  exact sep_elim_left.trans (bigSep_elim (Finset.mem_univ (c, k)) (Φ := fun ck : Dev nD × Sm => cellInv ER (Rd m) (K ck) (cell ck.1 ck.2)))
theorem known_reached (K : Dev nD × Sm → ℕ) (c : Dev nD) (k : Sm) : known m K ⊢ reached ER (cell c k) 0 := by
  unfold known
  exact sep_elim_right.trans (bigSep_elim (Finset.mem_univ (c, k)) (Φ := fun ck : Dev nD × Sm => reached ER (cell ck.1 ck.2) 0))

/-- What `c` raises the barriers with: for each of the others the token of the duty it pays there. -/
def raises (c : Dev nD) : sProp 𝕄 := bigSep Finset.univ fun i : Fin 3 => dutyTok ER (cell (up c i) bar) 0 i.rev
/-- What `c` copies with: the tokens of its own copies' semaphores and of the slots it writes. -/
def copies (c : Dev nD) : sProp 𝕄 :=
  bigSep Finset.univ fun i : Fin 3 => iprop(dutyTok ER (cell c (snd i)) 0 0 ∗ dutyTok ER (cell (up c i) (rcv i)) 0 0)
/-- What `c` waits with: its place at its seven semaphores and the credit for what the others add to four of them. -/
def waits (c : Dev nD) : sProp 𝕄 :=
  iprop((bigSep Finset.univ fun k : Sm => atPos ER (cell c k) 0 ∅ 0) ∗ cred (tallyAt (cell c bar) () 3)
    ∗ bigSep Finset.univ fun i : Fin 3 => cred (tallyAt (cell c (rcv i)) () N))

/-- All of it but the raises: what lasts from the first grid point to the last. -/
def lasting (c : Dev nD) : sProp 𝕄 := iprop((∃ K, known m K) ∗ waits c ∗ copies c ∗ levAts L lv)

/-- Before the first point: everything, both scratch buffers at any contents. -/
def Φ₀ (c : Dev nD) : sProp 𝕄 := iprop(lasting m c ∗ raises c ∗ (∃ f, accPts c fullShare f) ∗ bigSep Finset.univ fun i => iprop(∃ f, slotPts c i f))
/-- After point `k`, not the last: the running maximum so far; the slots are lent out. -/
def Φk (c : Dev nD) (k : ℕ) : sProp 𝕄 := iprop(lasting m c ∗ accPts c fullShare (part m c k))
/-- After the last point: both scratch buffers at some contents, the seven semaphores at zero. -/
def Φe (c : Dev nD) : sProp 𝕄 :=
  iprop((∃ f, accPts c fullShare f) ∗ (bigSep Finset.univ fun i => iprop(∃ f, slotPts c i f)) ∗ bigSep Finset.univ fun k : Sm => semVal (cell c k) 0)

def Φat (c : Dev nD) : ℕ → sProp 𝕄
  | 0 => Φ₀ m c
  | k + 1 => if k < 7 then Φk m c k else Φe c

/-- How many payments are still to be made before point `k`: all six, then the three copies, then none. -/
def left : ℕ → ℕ
  | 0 => 6
  | k + 1 => if k < 7 then 3 else 0

def dats (_ : Fin 1) (c : Dev nD) : Dat τ (Elt F) Unit ℕ UU ℕ cfg0 c where
  A w := m ((cfg0.win w).arr.view.loc (c : Thread nD τ))
  after w t := match w with
    | ⟨0, _⟩ => xblk m c t.val
    | ⟨1, _⟩ => outRow m c
  Φ t := Φat m c t.val
  q _ := fullShare
  owed t := due c (left t.val)

abbrev 𝒱₀ : Variants := Variants.none

end Cert.KernelIdealProof
-- ==== Proof.KernelIdeal.Steps.lean ====
/-
# One instruction at a time

What each kind of instruction of the kernel does to what device `c` holds: a load or a store of a whole buffer, a load of
one slot, a raise of another device's barrier, the wait at its own, a copy of the row to another device, and the wait for
a copy or for a slot.
-/
module

public import proofs.«01_k».proof.Proof.KernelIdeal.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- `p` run on device `c` ends in `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

omit [FloatOps F] in
theorem zeros : (![0, 0] : Fin 2 → ℕ) = fun _ => 0 := funext fun a => by fin_cases a <;> rfl

omit [FloatOps F] in
/-- Reading through the rectangle that is all of a buffer is reading the buffer. -/
theorem read_all {s : Shape} {e : EltTy} (a : Memref sig .tc .vmem s e) (inb : ∀ x, (fun _ => 0 : Fin s.rank → ℕ) x + s.size x ≤ s.size x)
    (f : a.view.ty.Contents (Elt F)) : (a.access (Rect.unit (fun _ => 0) s.size inb)).read (Elt F) f = a.view.read (Elt F) f := by
  funext x
  rw [View.read_apply, View.read_apply]
  have h : (a.access (Rect.unit (fun _ => 0) s.size inb)).emb x = a.view.emb x :=
    congrArg a.view.emb (Rect.emb_whole_apply s x)
  rw [h]

/-- A load of all of a buffer reads what it holds. -/
theorem load_all (c : Dev nD) {s : Shape} {e : EltTy} (a : Memref sig .tc .vmem s e) {off : Fin s.rank → ℕ} (hz : off = fun _ => 0)
    (inb : ∀ x, off x + s.size x ≤ s.size x) {hl : a.view.LoadsAt (Rect.unit off s.size inb).toLoadRect} {q : PosShare TreeShare}
    {α : Type} {Q : α → sProp 𝕄} {k : (s.Idx → Elt F e) → Prog (TpuEff nD τ sig (Elt F) Λ₀ .tc) α} (X : s.Idx → Elt F e) :
    (owns (c : Thread nD τ) a q X : sProp 𝕄)
      ⊢ iprop((owns (c : Thread nD τ) a q X -∗ runs c (k X) Q) -∗ runs c (.op (.load a (Rect.unit off s.size inb).toLoadRect hl) k) Q) := by
  subst hz
  unfold owns
  iintro ⟨%f, %hf, H⟩ Hk
  iapply (wp_load_rect 𝒱₀ (c : Thread nD τ) none Set.univ (m := a) (r := Rect.unit (fun _ => 0) s.size inb) (View.set_slice_subset _ _)) $$ H
  iintro H
  rw [(read_all a inb f).trans hf]
  iapply Hk
  iexists f
  isplitr; · ipureintro; exact hf
  iexact H

/-- A store of all of a buffer leaves what was stored. -/
theorem store_all (c : Dev nD) {s : Shape} {e : EltTy} (a : Memref sig .tc .vmem s e) {off : Fin s.rank → ℕ} (hz : off = fun _ => 0)
    (inb : ∀ x, off x + s.size x ≤ s.size x) {w : s.Idx → Elt F e} {hx : (a.access (Rect.unit off s.size inb)).Stores Finset.univ}
    {hm : Finset.univ = Finset.univ ∨ ∀ x, (Rect.unit off s.size inb).stride x = 1}
    {α : Type} {Q : α → sProp 𝕄} {k : PUnit → Prog (TpuEff nD τ sig (Elt F) Λ₀ .tc) α} (X : s.Idx → Elt F e) :
    (owns (c : Thread nD τ) a fullShare X : sProp 𝕄)
      ⊢ iprop((owns (c : Thread nD τ) a fullShare w -∗ runs c (k ⟨⟩) Q)
        -∗ runs c (.op (.store a (Rect.unit off s.size inb) w Finset.univ hx hm) k) Q) := by
  subst hz
  unfold owns
  iintro ⟨%f, %hf, H⟩ Hk
  have hset : (a.access (Rect.unit (fun _ => 0) s.size inb)).setOn Finset.univ ⊆ a.view.set := by
    rw [View.setOn_univ]; exact View.set_slice_subset _ _
  iapply (wp_store 𝒱₀ (c : Thread nD τ) none Set.univ (m := a) (r := Rect.unit (fun _ => 0) s.size inb) (w := w) (Mk := Finset.univ) hset) $$ H
  iintro H
  iapply Hk
  iexists ((a.access (Rect.unit (fun _ => 0) s.size inb)).write (Elt F) f w Finset.univ)
  isplitr
  · ipureintro
    exact (read_all a inb _).symm.trans (View.read_write_univ (Val := Elt F) (v := a.access (Rect.unit (fun _ => 0) s.size inb)) f w)
  iexact H

omit [FloatOps F] in
/-- The running maximum held through its memref. -/
theorem accPts_owns (c : Dev nD) (q : PosShare TreeShare) (f : Vec F S1x1024 .bf16) :
    (owns (c : Thread nD τ) accM q f : sProp 𝕄) ⊣⊢ accPts c q f := by
  unfold owns accPts
  constructor
  · iintro ⟨%g, %hg, H⟩
    rw [show g = f from hg]; iexact H
  · iintro H; iexists f
    isplitr; · ipureintro; rfl
    iexact H

/-- A load of slot `i` reads the row in it. -/
theorem load_slot (c : Dev nD) (i : Fin 3) {off : Fin 3 → ℕ} (ho : off = ![i.val, 0, 0]) (inb : ∀ x, off x + S1x1x1024.size x ≤ S3x1x1024.size x)
    {hl : commM.view.LoadsAt (Rect.unit (s := S3x1x1024) off S1x1x1024.size inb).toLoadRect}
    {α : Type} {Q : α → sProp 𝕄} {k : Vec F S1x1x1024 .bf16 → Prog (TpuEff nD τ sig (Elt F) Λ₀ .tc) α} (w : Vec F S1x1024 .bf16) :
    slotHas c i w ⊢ iprop((slotHas c i w -∗ runs c (k (asSlot w)) Q)
      -∗ runs c (.op (.load commM (Rect.unit (s := S3x1x1024) off S1x1x1024.size inb).toLoadRect hl) k) Q) := by
  subst ho
  unfold slotHas slotPts
  iintro ⟨%fd, H⟩ Hk
  have hset : (commM.access (slotR i)).set ⊆ (slotM i).view.set :=
    (View.set_reshape (v := commM.view.slice (slotR i)) squeezes_S1x1x1024_S1x1024.numel_eq).ge
  iapply (wp_load_rect 𝒱₀ (c : Thread nD τ) none Set.univ (m := commM) (r := slotR i) hset) $$ H
  iintro H
  have hr : (commM.access (slotR i)).read (Elt F) (landed i fd w) = asSlot w := by
    funext y
    have h := congrFun (View.read_write_univ (Val := Elt F) (v := (slotM i).view) fd w) ((Shape.reshapeEquiv squeezes_S1x1x1024_S1x1024.numel_eq).symm y)
    refine Eq.trans ?_ h
    rw [View.read_apply, View.read_apply]
    have he : (slotM i).view.emb ((Shape.reshapeEquiv squeezes_S1x1x1024_S1x1024.numel_eq).symm y) = (commM.access (slotR i)).emb y :=
      congrArg (commM.view.slice (slotR i)).emb (Equiv.apply_symm_apply (Shape.reshapeEquiv squeezes_S1x1x1024_S1x1024.numel_eq) y)
    rw [he]; rfl
  rw [hr]
  iapply Hk
  iexists fd; iexact H

/-! ## The barrier -/

/-- What a raise, and what a row's arrival, brings. -/
theorem pay_bar (c : Dev nD) (i : Fin 3) :
    pay (F := F) m c bar i = iprop((∃ f, slotPts (up c i) i f) ∗ reached ER (cell (up c i) (rcv i)) 0) := rfl
theorem pay_rcv (c : Dev nD) (i d : Fin 3) : pay (F := F) m c (rcv i) d = slotHas c i (row m (up c i.rev)) := rfl
theorem pay_snd (c : Dev nD) (i d : Fin 3) : pay (F := F) m c (snd i) d = accPts c (lent i) (row m c) := rfl

/-- The three raises bring the three slots to write. -/
theorem barrier_slots (c : Dev nD) :
    (bigSep Finset.univ fun i => pay (F := F) m c bar i) ⊢ (bigSep Finset.univ fun i => iprop(∃ f, slotPts (up c i) i f) : sProp 𝕄) :=
  bigSep_mono fun i _ => (Entails.of_eq (pay_bar m c i)).trans sep_elim_left

/-- A raise of the barrier of `up c i`: it pays the first due of `c` and lends the slot that device writes. -/
theorem raise (K : Dev nD × Sm → ℕ) (c : Dev nD) (i : Fin 3) (n : Dev nD) (hn : n = up c i) (j u : ℕ) (hu : 1 = u)
    (hj : payee c j = (cell (up c i) bar, 1)) {W : Waits sig Unit}
    {α : Type} {Q : α → sProp 𝕄} {k : PUnit → Prog (TpuEff nD τ sig (Elt F) Λ₀ .tc) α} :
    iprop(known m K ∗ owes (c : Thread nD τ) (due c (j + 1)) W ∗ dutyTok ER (cell (up c i) bar) 0 i.rev ∗ (∃ f, slotPts c i.rev f))
      ⊢ iprop((owes (c : Thread nD τ) (due c j) W -∗ runs c (k ⟨⟩) Q) -∗ runs c (.op (.semSignal (n : Thread nD τ) barS u) k) Q) := by
  subst hn hu
  iintro ⟨#HK, HO, Ht, Hs⟩
  iapply (Rounds.wp_signal 𝒱₀ ER (Rd m) (c : Thread nD τ) none (dst := ((up c i : Dev nD) : Thread nD τ)) (sem := barS) (r := 0) (d := i.rev) (κ := K (up c i, bar))
    (show i.rev ∈ (Rd (F := F) m).duties (cell (up c i) bar) 0 by rw [Rd_duties]; exact Finset.mem_univ _)
    (show (Rd (F := F) m).amount (cell (up c i) bar) 0 i.rev = 1 by rw [Rd_amount]; rfl) () (O₀ := due c (j + 1)) (due c j)
    (show due c (j + 1) = due c j + tallyAt (cell (up c i) bar) () 1 by unfold due; rw [hj]; cases j <;> rfl)) $$ [HO Ht Hs]
  isplitr; · iapply (known_inv m K (up c i) bar); iexact HK
  isplitl [HO]; · iexact HO
  isplitl [Ht]; · iexact Ht
  isplitl [Hs]
  · rw [show (((up c i : Dev nD) : Thread nD τ), SemLoc.reg barS) = cell (up c i) bar from rfl, Rd_payload]
    rw [pay_bar, up_up_rev]
    isplitl [Hs]; · iexact Hs
    iapply (known_reached m K c (rcv i.rev)); iexact HK
  iapply (known_reached m K (up c i) bar); iexact HK

/-- The wait at one's own barrier: it brings the three slots to write. -/
theorem await_raises (K : Dev nD × Sm → ℕ) (c : Dev nD) (u : ℕ) (hu : 3 = u) {W : Waits sig Unit}
    {α : Type} {Q : α → sProp 𝕄} {k : PUnit → Prog (TpuEff nD τ sig (Elt F) Λ₀ .tc) α} :
    iprop(known m K ∗ levAts L lv ∗ owes (c : Thread nD τ) (due c 3) W ∗ cred (tallyAt (cell c bar) () 3) ∗ atPos ER (cell c bar) 0 ∅ 0)
      ⊢ iprop(((∃ W', owes (c : Thread nD τ) (due c 3) W') ∗ atPos ER (cell c bar) (0 + 1) ∅ 0
            ∗ (bigSep Finset.univ fun i => iprop(∃ f, slotPts (up c i) i f)) -∗ runs c (k ⟨⟩) Q)
          -∗ runs c (.op (.semWait barS u) k) Q) := by
  subst hu
  iintro ⟨#HK, #HL, HO, HC, Hat⟩ Hk
  iapply (Rounds.wp_wait_rest_token 𝒱₀ ER (Rd m) (c : Thread nD τ) none (sm := loc bar) (κ := K (c, bar))
    (wpE_semWait_eq 𝒱₀ (c : Thread nD τ) none Set.univ) (Set.mem_univ _) () (O := due c 3) (W := W) (R := 0) (m := 0) (T := ∅)
    (show 0 + 3 = (Rd (F := F) m).expect (cell c bar) 0 by rw [Rd_expect_bar])) $$ [HO HC Hat]
  · isplitr; · iapply (known_inv m K c bar); iexact HK
    isplitl [HC]; · iexact HC
    isplitl [HO]; · iexact HO
    isplitr; · iapply (mayWait_bar c); iexact HL
    iexact Hat
  iintro ⟨HO, Hat, -, Hp⟩
  iapply Hk
  isplitl [HO]; · iexists _; iexact HO
  isplitl [Hat]; · iexact Hat
  have hall := Rd_all_bar (F := F) m c
  rw [show cell c bar = ((c : Thread nD τ), loc bar) from rfl] at hall
  ihave Hp := (Entails.of_eq hall) $$ Hp
  iapply (barrier_slots m c); iexact Hp

/-! ## The copies -/

/-- A copy of `c`'s row into slot `i` of `up c i`, from the quarter of `acc` lent to it; device, slot and semaphores as the program
spells them. -/
theorem copy (K : Dev nD × Sm → ℕ) (c : Dev nD) (i : Fin 3) {n : Dev nD} (hn : n = up c i) (j : ℕ)
    (hj : payee c j = (cell (up c i) (rcv i), N)) {W : Waits sig Unit} {dst : Memref sig .tc .vmem S1x1024 .bf16} (hd : dst = slotM i)
    {sS sR : DmaSem sig} (hS : sS = sendS i) (hR : sR = recvS i)
    {hsc : (dst : Memref sig (Dev.tc n : Thread nD τ).2.kind .vmem S1x1024 .bf16).view.ref.isScScratch = false}
    {hsrc : accM.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(known m K ∗ accPts c (lent i) (row m c) ∗ (∃ f, slotPts (up c i) i f) ∗ owes (c : Thread nD τ) (due c (j + 1)) W
        ∗ dutyTok ER (cell c (snd i)) 0 0 ∗ dutyTok ER (cell (up c i) (rcv i)) 0 0)
      ⊢ iprop((cred (tallyAt (cell c (snd i)) () N) ∗ owes (c : Thread nD τ) (due c j) W -∗ runs c (k ⟨⟩) Q)
          -∗ runs c (.op (.enqueueDma accM (.remote (Dev.tc n : Thread nD τ) dst (.dma sS) hsc) (.dma sR) hsrc hdst hsem) k) Q) := by
  subst hn hd hS hR
  unfold accPts slotPts
  iintro ⟨#HK, Ha, ⟨%fd, Hs⟩, HO, Ht, Ht'⟩
  iapply (Rounds.wp_send_pointsTo 𝒱₀ ER (Rd m) (c : Thread nD τ) none (c' := ((up c i : Dev nD) : Thread nD τ)) (src := accM) (dst := slotM i)
    (sS := .dma (sendS i)) (sem := .dma (recvS i)) (κ₁ := K (c, snd i)) (κ₂ := K (up c i, rcv i))
    (r₁ := 0) (r₂ := 0) (d₁ := 0) (d₂ := 0) (q := lent i) (fs := row m c) (fd := fd)
    (show (0 : Fin 3) ∈ (Rd (F := F) m).duties (cell c (snd i)) 0 by rw [Rd_duties]; exact Finset.mem_singleton_self _)
    (show (0 : Fin 3) ∈ (Rd (F := F) m).duties (cell (up c i) (rcv i)) 0 by rw [Rd_duties]; exact Finset.mem_singleton_self _)
    () () N rfl (show (Rd (F := F) m).amount (cell c (snd i)) 0 0 = N by rw [Rd_amount]; rfl)
    (show (Rd (F := F) m).amount (cell (up c i) (rcv i)) 0 0 = N by rw [Rd_amount]; rfl) (O₀ := due c (j + 1)) (due c j)
    (show due c (j + 1) = due c j + tallyAt (cell (up c i) (rcv i)) () N by unfold due; rw [hj]; cases j <;> rfl) (W := W)
    (show _ ⊢ (Rd (F := F) m).payload (cell c (snd i)) 0 0 by rw [Rd_payload]; exact BI.Entails.refl _)
    (show _ ⊢ (Rd (F := F) m).payload (cell (up c i) (rcv i)) 0 0 by
      rw [Rd_payload, pay_rcv, up_up_rev]; unfold slotHas slotPts landed; iintro H; iexists fd; iexact H)) $$ [Ha Hs HO Ht Ht']
  isplitr; · iapply (known_inv m K c (snd i)); iexact HK
  isplitr; · iapply (known_inv m K (up c i) (rcv i)); iexact HK
  isplitl [Ha]; · iexact Ha
  isplitl [Hs]; · iexact Hs
  isplitl [HO]; · iexact HO
  isplitl [Ht]; · iexact Ht
  isplitr; · iapply (known_reached m K c (snd i)); iexact HK
  isplitl [Ht']; · iexact Ht'
  iapply (known_reached m K (up c i) (rcv i)); iexact HK

/-- The wait for one of the six semaphores of the copies, when nothing is owed any more: it brings what its duty brings. -/
theorem await_dma (K : Dev nD × Sm → ℕ) (c : Dev nD) (x : Fin 3 ⊕ Fin 3) {sp sp' : Space} {s s' : Shape} {e e' : EltTy} {sem : DmaSem sig}
    {src : Memref sig .tc sp' s' e'} {dst : Memref sig .tc sp s e} {hsrc : src.view.WordExact} {hdst : dst.view.WordExact}
    (hs : loc (.inr x) = .dma sem) (hN : dst.view.dmaCredit = N) {W : Waits sig Unit}
    {α : Type} {Q : α → sProp 𝕄} {k : PUnit → Prog (TpuEff nD τ sig (Elt F) Λ₀ .tc) α} :
    iprop(known m K ∗ owes (c : Thread nD τ) 0 W ∗ cred (tallyAt (cell c (.inr x)) () N) ∗ atPos ER (cell c (.inr x)) 0 ∅ 0)
      ⊢ iprop(((∃ W', owes (c : Thread nD τ) 0 W') ∗ atPos ER (cell c (.inr x)) (0 + 1) ∅ 0 ∗ pay m c (.inr x) 0 -∗ runs c (k ⟨⟩) Q)
          -∗ runs c (.op (.waitDma2 sem src dst hsrc hdst) k) Q) := by
  iintro ⟨#HK, HO, HC, Hat⟩ Hk
  have hc : cell c (.inr x) = ((c : Thread nD τ), SemLoc.dma sem) := by unfold cell; rw [hs]
  ihave #Hinv := (known_inv m K c (.inr x)) $$ HK
  have hE : 0 + dst.view.dmaCredit = (Rd (F := F) m).expect ((c : Thread nD τ), SemLoc.dma sem) 0 := by
    rw [← hc, Rd_expect_dma, hN, Nat.zero_add]
  have hall := Rd_all_dma (F := F) m c x
  rw [hc] at hall
  rw [hc, ← hN]
  iapply (Rounds.wp_wait_rest_token 𝒱₀ ER (Rd m) (c : Thread nD τ) none (sm := .dma sem) (κ := K (c, .inr x))
    (wpE_waitDma2_eq 𝒱₀ (c : Thread nD τ) none Set.univ) (Set.mem_univ _) () (O := 0) (W := W) (R := 0) (m := 0) (T := ∅) hE) $$ [HO HC Hat]
  · isplitr; · iexact Hinv
    isplitl [HC]; · iexact HC
    isplitl [HO]; · iexact HO
    isplitr; · rw [MayWait_zero]; iempintro
    iexact Hat
  iintro ⟨HO, Hat, -, Hp⟩
  iapply Hk
  isplitl [HO]; · iexists _; iexact HO
  isplitl [Hat]; · iexact Hat
  ihave Hp := (Entails.of_eq hall) $$ Hp
  iexact Hp

/-- A semaphore past its only round is at zero. -/
theorem close (K : Dev nD × Sm → ℕ) (c : Dev nD) (k : Sm) :
    iprop(known m K ∗ atPos ER (cell c k) (0 + 1) ∅ 0) ⊢ iprop(|={Set.univ}=> semVal (cell c k) 0) := by
  iintro ⟨#HK, Hat⟩
  iapply (Rounds.cell_close ER (Rd m) (κ := K (c, k)) (Set.mem_univ _) (fun h => h) (R := 0 + 1) (fun r hr => Rd_later m (cell c k) r hr))
  isplitr; · iapply (known_inv m K c k); iexact HK
  iexact Hat

end Cert.KernelIdealProof
-- ==== Proof.KernelIdeal.Points.lean ====
/-
# The body at each grid point

At the first point a device raises the three barriers and starts its running maximum; at every later point it folds its
next block in; at the last it also exchanges the rows and stores the result.
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tests on the grid point -/

abbrev isFirst (i : grid0.Coords) : Prop :=
  (Scalar.cmpi .ne (Scalar.extui (Scalar.cmpi .eq (BitVec.ofNat 32 (i 0).val) 0#32) : BitVec 32) 0#32 : BitVec 1) = 1#1
abbrev isLater (i : grid0.Coords) : Prop :=
  (Scalar.cmpi .ne (Scalar.extui (Scalar.cmpi .sgt (BitVec.ofNat 32 (i 0).val) 0#32) : BitVec 32) 0#32 : BitVec 1) = 1#1

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ t.val ≠ 0 :=
  (by decide +kernel : ∀ t : Fin grid0.N, isLater (grid0.coords t) ↔ t.val ≠ 0)
theorem cond4_iff : ∀ t : Fin cfg0.N, k0_cond4 (grid0.coords t) = 1#1 ↔ t.val = 7 :=
  (by decide +kernel : ∀ t : Fin grid0.N, k0_cond4 (grid0.coords t) = 1#1 ↔ t.val = 7)

omit [FloatOps F] in
/-- Three of something, one by one. -/
theorem three (P : Fin 3 → sProp 𝕄) : bigSep Finset.univ P = iprop(P 0 ∗ P 1 ∗ P 2) := by
  rw [bigSep_univ_eq_bigSepL [0, 1, 2] (by decide) (by decide), bigSepL_cons_cons, bigSepL_cons_cons, bigSepL_singleton]; rfl

omit [FloatOps F] in
/-- The seven semaphores one by one. -/
theorem seven (P : Sm → sProp 𝕄) : bigSep Finset.univ P
    = iprop(P bar ∗ P (snd 0) ∗ P (snd 1) ∗ P (snd 2) ∗ P (rcv 0) ∗ P (rcv 1) ∗ P (rcv 2)) := by
  rw [bigSep_univ_eq_bigSepL [bar, snd 0, snd 1, snd 2, rcv 0, rcv 1, rcv 2] (by decide) (by decide), bigSepL_cons_cons, bigSepL_cons_cons,
    bigSepL_cons_cons, bigSepL_cons_cons, bigSepL_cons_cons, bigSepL_cons_cons, bigSepL_singleton]; rfl

omit [FloatOps F] in
/-- The running maximum in its four quarters. -/
theorem quarters (c : Dev nD) (f : Vec F S1x1024 .bf16) :
    (accPts c fullShare f : sProp 𝕄) = iprop(accPts c (lent 0) f ∗ accPts c (lent 1) f ∗ accPts c (lent 2) f ∗ accPts c kept f) := by
  unfold accPts
  rw [ShareLeaves.pointsTo_leaves _ _ 2 fullShare,
    bigSep_univ_eq_bigSepL [(⟨0, by decide⟩ : Fin (2 ^ 2)), ⟨1, by decide⟩, ⟨2, by decide⟩, ⟨3, by decide⟩] (by decide) (by decide),
    bigSepL_cons_cons, bigSepL_cons_cons, bigSepL_cons_cons, bigSepL_singleton]
  rfl

theorem rev0 : (0 : Fin 3).rev = 2 := rfl
theorem rev1 : (1 : Fin 3).rev = 1 := rfl
theorem rev2 : (2 : Fin 3).rev = 0 := rfl

section Body

variable (c : Dev nD) (i : grid0.Coords) (a1 : Memref sig .tc .vmem S256x1024 .bf16) (h1 : a1.IsWhole)
  (a2 : Memref sig .tc .vmem S1x1024 .bf16) (h2 : a2.IsWhole)

/-- The body on device `c`'s own scratch buffers and semaphores. -/
abbrev body : Prog (TpuEff nD τ sig (Elt F) Λ₀ .tc) PUnit :=
  cc0_body i a1 h1 a2 h2 accM (Memref.isWhole_whole _) commM (Memref.isWhole_whole _) cc0_scratch2 cc0_scratch3

/-- What `c` owes, having waited for whatever it has waited for. -/
abbrev owing (n : ℕ) : sProp 𝕄 := iprop(∃ W, owes (c : Thread nD τ) (due c n) W)

/-- The first point. -/
theorem body_first (hc1 : k0_cond1 i = 1#1) (hf : isFirst i) (hl : ¬ isLater i) (hc4 : ¬ k0_cond4 i = 1#1) (Y : Vec F S1x1024 .bf16) :
    iprop(Φ₀ m c ∗ owing c 6 ∗ owns (c : Thread nD τ) a1 fullShare (xblk m c 0) ∗ owns (c : Thread nD τ) a2 fullShare Y)
      ⊢ runs c (body i a1 h1 a2 h2) fun _ =>
        iprop(Φk m c 0 ∗ owing c 3 ∗ owns (c : Thread nD τ) a1 fullShare (xblk m c 0) ∗ owns (c : Thread nD τ) a2 fullShare Y) := by
  unfold body runs
  simp only [cc0_body_eq_skeleton]; unfold cc0_body_skel
  simp only [k0_part1_eq_skeleton]; unfold k0_part1_skel
  simp only [dif_pos hc1, dif_pos hf, dif_neg hl, dif_neg hc4, semSignalWord, semWaitWord, Prog.lift, Prog.bind_op, Prog.bind_ret,
    Prog.pure_eq_ret, wp_deviceId, dev1_eq c, dev2_eq c, dev3_eq c]
  unfold Φ₀ raises Φk
  rw [three, three]
  iintro ⟨⟨Hl, ⟨Ht0, Ht1, Ht2⟩, ⟨%f, Ha⟩, Hs0, Hs1, Hs2⟩, ⟨%W, HO⟩, Hx, Hy⟩
  unfold lasting
  icases Hl with ⟨⟨%K, #HK⟩, Hw, Hc, #HL⟩
  -- the three raises
  iapply (raise m K c 0 _ rfl 5 _ (by decide) rfl) $$ [HO Ht0 Hs2]
  · isplitr; · iexact HK
    isplitl [HO]; · iexact HO
    isplitl [Ht0]; · iexact Ht0
    rw [rev0]; iexact Hs2
  iintro HO
  iapply (raise m K c 1 _ rfl 4 _ (by decide) rfl) $$ [HO Ht1 Hs1]
  · isplitr; · iexact HK
    isplitl [HO]; · iexact HO
    isplitl [Ht1]; · iexact Ht1
    rw [rev1]; iexact Hs1
  iintro HO
  iapply (raise m K c 2 _ rfl 3 _ (by decide) rfl) $$ [HO Ht2 Hs0]
  · isplitr; · iexact HK
    isplitl [HO]; · iexact HO
    isplitl [Ht2]; · iexact Ht2
    rw [rev2]; iexact Hs0
  iintro HO
  -- the first block starts the running maximum
  iapply (load_all c a1 zeros _ (xblk m c 0)) $$ Hx
  iintro Hx
  ihave Ha := (accPts_owns c fullShare f).2 $$ Ha
  iapply (load_all c accM zeros _ f) $$ Ha
  iintro Ha
  iapply (store_all c accM zeros _ f) $$ Ha
  iintro Ha
  ihave Ha := (accPts_owns c fullShare _).1 $$ Ha
  unfold runs; rw [wp_ret]; imodintro
  isplitl [Hw Hc Ha]
  · isplitl [Hw Hc]
    · isplitr; · iexists K; iexact HK
      isplitl [Hw]; · iexact Hw
      isplitl [Hc]; · iexact Hc
      iexact HL
    · iexact Ha
  isplitl [HO]; · iexists W; iexact HO
  isplitl [Hx]; · iexact Hx
  iexact Hy

/-- A point between the first and the last: the next block is folded in. -/
theorem body_mid (k : ℕ) (hc1 : ¬ k0_cond1 i = 1#1) (hf : ¬ isFirst i) (hl : isLater i) (hc4 : ¬ k0_cond4 i = 1#1) (Y : Vec F S1x1024 .bf16) :
    iprop(Φk m c k ∗ owing c 3 ∗ owns (c : Thread nD τ) a1 fullShare (xblk m c (k + 1)) ∗ owns (c : Thread nD τ) a2 fullShare Y)
      ⊢ runs c (body i a1 h1 a2 h2) fun _ =>
        iprop(Φk m c (k + 1) ∗ owing c 3 ∗ owns (c : Thread nD τ) a1 fullShare (xblk m c (k + 1)) ∗ owns (c : Thread nD τ) a2 fullShare Y) := by
  unfold body runs
  simp only [cc0_body_eq_skeleton]; unfold cc0_body_skel
  simp only [dif_neg hc1, dif_neg hf, dif_pos hl, dif_neg hc4, Prog.lift, Prog.bind_op, Prog.bind_ret,
    Prog.pure_eq_ret, wp_deviceId]
  unfold Φk
  iintro ⟨⟨Hl, Ha⟩, HO, Hx, Hy⟩
  iapply (load_all c a1 zeros _ (xblk m c (k + 1))) $$ Hx
  iintro Hx
  ihave Ha := (accPts_owns c fullShare _).2 $$ Ha
  iapply (load_all c accM zeros _ (part m c k)) $$ Ha
  iintro Ha
  iapply (load_all c accM zeros _ (part m c k)) $$ Ha
  iintro Ha
  iapply (store_all c accM zeros _ (part m c k)) $$ Ha
  iintro Ha
  ihave Ha := (accPts_owns c fullShare _).1 $$ Ha
  unfold runs; rw [wp_ret]; imodintro
  isplitl [Hl Ha]
  · isplitl [Hl]; · iexact Hl
    iexact Ha
  isplitl [HO]; · iexact HO
  isplitl [Hx]; · iexact Hx
  iexact Hy

/-- The last point: the last block is folded in, the rows are exchanged, the result is stored. -/
theorem body_last (hc1 : ¬ k0_cond1 i = 1#1) (hf : ¬ isFirst i) (hl : isLater i) (hc4 : k0_cond4 i = 1#1) (Y : Vec F S1x1024 .bf16) :
    iprop(Φk m c 6 ∗ owing c 3 ∗ owns (c : Thread nD τ) a1 fullShare (xblk m c 7) ∗ owns (c : Thread nD τ) a2 fullShare Y)
      ⊢ runs c (body i a1 h1 a2 h2) fun _ =>
        iprop(Φe c ∗ owing c 0 ∗ owns (c : Thread nD τ) a1 fullShare (xblk m c 7) ∗ owns (c : Thread nD τ) a2 fullShare (outRow m c)) := by
  unfold body runs
  simp only [cc0_body_eq_skeleton]; unfold cc0_body_skel
  simp only [k0_part2_eq_skeleton, k0_part3_eq_skeleton, k0_part4_eq_skeleton]; unfold k0_part2_skel k0_part3_skel k0_part4_skel
  simp only [dif_neg hc1, dif_neg hf, dif_pos hl, dif_pos hc4, semSignalWord, semWaitWord, Prog.lift, Prog.bind_op, Prog.bind_ret,
    Prog.pure_eq_ret, wp_deviceId]
  unfold Φk lasting waits copies
  rw [three, three, seven]
  iintro ⟨⟨⟨⟨%K, #HK⟩, ⟨⟨HaB, HaS0, HaS1, HaS2, HaR0, HaR1, HaR2⟩, HcB, HcR0, HcR1, HcR2⟩, ⟨⟨Ht0, Ht0'⟩, ⟨Ht1, Ht1'⟩, Ht2, Ht2'⟩, #HL⟩, Ha⟩,
    ⟨%W, HO⟩, Hx, Hy⟩
  -- the last block
  iapply (load_all c a1 zeros _ (xblk m c 7)) $$ Hx
  iintro Hx
  ihave Ha := (accPts_owns c fullShare _).2 $$ Ha
  iapply (load_all c accM zeros _ (part m c 6)) $$ Ha
  iintro Ha
  iapply (load_all c accM zeros _ (part m c 6)) $$ Ha
  iintro Ha
  iapply (store_all c accM zeros _ (part m c 6)) $$ Ha
  iintro Ha
  ihave Ha := (accPts_owns c fullShare _).1 $$ Ha
  ihave Ha := (show accPts c fullShare (k0_pay3 (xblk m c 7) (part m c 6)) ⊢ _ from Entails.of_eq (quarters c (row m c))) $$ Ha
  icases Ha with ⟨Ha0, Ha1, Ha2, Ha3⟩
  -- the three raises of the others
  iapply (await_raises m K c _ (by decide)) $$ [HO HcB HaB]
  · isplitr; · iexact HK
    isplitr; · iexact HL
    isplitl [HO]; · iexact HO
    isplitl [HcB]; · iexact HcB
    iexact HaB
  rw [three]
  iintro ⟨⟨%W1, HO⟩, HaB, Hs0, Hs1, Hs2⟩
  -- the three copies
  iapply (copy m K c 0 (dev4_eq c _) 2 rfl rfl rfl rfl) $$ [HO Ha0 Hs0 Ht0 Ht0']
  · isplitr; · iexact HK
    isplitl [Ha0]; · iexact Ha0
    isplitl [Hs0]; · iexact Hs0
    isplitl [HO]; · iexact HO
    isplitl [Ht0]; · iexact Ht0
    iexact Ht0'
  iintro ⟨HcS0, HO⟩
  iapply (copy m K c 1 (dev5_eq c _) 1 rfl rfl rfl rfl) $$ [HO Ha1 Hs1 Ht1 Ht1']
  · isplitr; · iexact HK
    isplitl [Ha1]; · iexact Ha1
    isplitl [Hs1]; · iexact Hs1
    isplitl [HO]; · iexact HO
    isplitl [Ht1]; · iexact Ht1
    iexact Ht1'
  iintro ⟨HcS1, HO⟩
  iapply (copy m K c 2 (dev6_eq c _) 0 rfl rfl rfl rfl) $$ [HO Ha2 Hs2 Ht2 Ht2']
  · isplitr; · iexact HK
    isplitl [Ha2]; · iexact Ha2
    isplitl [Hs2]; · iexact Hs2
    isplitl [HO]; · iexact HO
    isplitl [Ht2]; · iexact Ht2
    iexact Ht2'
  iintro ⟨HcS2, HO⟩
  rw [show due c 0 = 0 from rfl]
  -- the device's own row, from the quarter it kept
  ihave Ha3 := (accPts_owns c kept _).2 $$ Ha3
  iapply (load_all c accM zeros _ (row m c)) $$ Ha3
  iintro Ha3
  ihave Ha3 := (accPts_owns c kept _).1 $$ Ha3
  -- the three rows of the others
  iapply (await_dma m K c (.inr 0) (sem := recvS 0) (dst := slotM 0) rfl rfl) $$ [HO HcR0 HaR0]
  · isplitr; · iexact HK
    isplitl [HO]; · iexact HO
    isplitl [HcR0]; · iexact HcR0
    iexact HaR0
  rw [pay_rcv, rev0]
  iintro ⟨⟨%W2, HO⟩, HaR0, Hr0⟩
  iapply (load_slot c 0 rfl _ (row m (up c 2))) $$ Hr0
  iintro Hr0
  iapply (await_dma m K c (.inr 2) (sem := recvS 2) (dst := slotM 2) rfl rfl) $$ [HO HcR2 HaR2]
  · isplitr; · iexact HK
    isplitl [HO]; · iexact HO
    isplitl [HcR2]; · iexact HcR2
    iexact HaR2
  rw [pay_rcv, rev2]
  iintro ⟨⟨%W3, HO⟩, HaR2, Hr2⟩
  iapply (load_slot c 2 rfl _ (row m (up c 0))) $$ Hr2
  iintro Hr2
  iapply (await_dma m K c (.inr 1) (sem := recvS 1) (dst := slotM 1) rfl rfl) $$ [HO HcR1 HaR1]
  · isplitr; · iexact HK
    isplitl [HO]; · iexact HO
    isplitl [HcR1]; · iexact HcR1
    iexact HaR1
  rw [pay_rcv, rev1]
  iintro ⟨⟨%W4, HO⟩, HaR1, Hr1⟩
  iapply (load_slot c 1 rfl _ (row m (up c 1))) $$ Hr1
  iintro Hr1
  -- the result
  iapply (load_all c a2 zeros _ Y) $$ Hy
  iintro Hy
  iapply (store_all c a2 zeros _ Y) $$ Hy
  iintro Hy
  -- the device's own copies
  iapply (await_dma m K c (.inl 0) (sem := sendS 0) (dst := accM) rfl rfl) $$ [HO HcS0 HaS0]
  · isplitr; · iexact HK
    isplitl [HO]; · iexact HO
    isplitl [HcS0]; · iexact HcS0
    iexact HaS0
  rw [pay_snd]
  iintro ⟨⟨%W5, HO⟩, HaS0, Ha0⟩
  iapply (await_dma m K c (.inl 1) (sem := sendS 1) (dst := accM) rfl rfl) $$ [HO HcS1 HaS1]
  · isplitr; · iexact HK
    isplitl [HO]; · iexact HO
    isplitl [HcS1]; · iexact HcS1
    iexact HaS1
  rw [pay_snd]
  iintro ⟨⟨%W6, HO⟩, HaS1, Ha1⟩
  iapply (await_dma m K c (.inl 2) (sem := sendS 2) (dst := accM) rfl rfl) $$ [HO HcS2 HaS2]
  · isplitr; · iexact HK
    isplitl [HO]; · iexact HO
    isplitl [HcS2]; · iexact HcS2
    iexact HaS2
  rw [pay_snd]
  iintro ⟨⟨%W7, HO⟩, HaS2, Ha2⟩
  -- the seven semaphores are back at zero
  unfold runs; rw [wp_ret]
  imod (close m K c bar) $$ [HaB] with HvB
  · isplitr; · iexact HK
    iexact HaB
  imod (close m K c (snd 0)) $$ [HaS0] with HvS0
  · isplitr; · iexact HK
    iexact HaS0
  imod (close m K c (snd 1)) $$ [HaS1] with HvS1
  · isplitr; · iexact HK
    iexact HaS1
  imod (close m K c (snd 2)) $$ [HaS2] with HvS2
  · isplitr; · iexact HK
    iexact HaS2
  imod (close m K c (rcv 0)) $$ [HaR0] with HvR0
  · isplitr; · iexact HK
    iexact HaR0
  imod (close m K c (rcv 1)) $$ [HaR1] with HvR1
  · isplitr; · iexact HK
    iexact HaR1
  imod (close m K c (rcv 2)) $$ [HaR2] with HvR2
  · isplitr; · iexact HK
    iexact HaR2
  imodintro
  unfold Φe slotHas
  rw [three, seven]
  isplitl [Ha0 Ha1 Ha2 Ha3 Hr0 Hr1 Hr2 HvB HvS0 HvS1 HvS2 HvR0 HvR1 HvR2]
  · isplitl [Ha0 Ha1 Ha2 Ha3]
    · iexists (row m c)
      rw [quarters]
      isplitl [Ha0]; · iexact Ha0
      isplitl [Ha1]; · iexact Ha1
      isplitl [Ha2]; · iexact Ha2
      iexact Ha3
    isplitl [Hr0 Hr1 Hr2]
    · icases Hr0 with ⟨%f0, Hr0⟩
      icases Hr1 with ⟨%f1, Hr1⟩
      icases Hr2 with ⟨%f2, Hr2⟩
      isplitl [Hr0]; · iexists _; iexact Hr0
      isplitl [Hr1]; · iexists _; iexact Hr1
      iexists _; iexact Hr2
    isplitl [HvB]; · iexact HvB
    isplitl [HvS0]; · iexact HvS0
    isplitl [HvS1]; · iexact HvS1
    isplitl [HvS2]; · iexact HvS2
    isplitl [HvR0]; · iexact HvR0
    isplitl [HvR1]; · iexact HvR1
    iexact HvR2
  isplitl [HO]; · iexists W7; iexact HO
  isplitl [Hx]; · iexact Hx
  iexact Hy

end Body

end Cert.KernelIdealProof
-- ==== Proof.KernelIdeal.Body.lean ====
/-
# The body obligation

The three kinds of grid point, put together as the pipeline asks for them.
-/
module

public import proofs.«01_k».proof.Proof.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem lt_eight (t : Fin cfg0.N) : t.val < 8 := lt_of_lt_of_eq t.isLt N_0

/-- Block `t` of `x` as the program's window reads it. -/
theorem xblk_eq (c : Dev nD) (t : Fin cfg0.N) : xblk m c t.val = iblk m c 0 t := by
  unfold xblk
  congr 1
  exact Fin.ext (Nat.mod_eq_of_lt (lt_eight t))

/-- The input window's buffer holds block `t` at point `t`. -/
theorem before_x (c : Dev nD) (t : Fin cfg0.N) (d) : (dats m 0 c).before 0 t d = xblk m c t.val :=
  ((dats m 0 c).before_in_eq_fetched 0 rfl (fun _ => rfl) (fun _ _ _ => rfl) (fun t => (xblk_eq m c t).trans (by unfold Dat.blockOf iblk; rfl)) t d).trans
    ((xblk_eq m c t).trans (by unfold Dat.fetched Dat.blockOf iblk; rfl)).symm

/-- The output window is handed back as found at every point but the last. -/
theorem out_idle : ∀ t : Fin cfg0.N, t.val ≠ 7 → idle0 1 (grid0.coords t) = true :=
  (by decide +kernel : ∀ t : Fin grid0.N, t.val ≠ 7 → idle0 1 (grid0.coords t) = true)
theorem out_live : ∀ t : Fin cfg0.N, t.val = 7 → idle0 1 (grid0.coords t) = false :=
  (by decide +kernel : ∀ t : Fin grid0.N, t.val = 7 → idle0 1 (grid0.coords t) = false)
theorem out_kept (t : Fin cfg0.N) (h : t.val ≠ 7) : (win0 1).flush t = false :=
  Bool.eq_false_iff.mpr fun h' => h (by have := (flush0_1 t).mp h'; have := lt_eight t; omega)

/-- The library's debt at a point is the device's. -/
theorem owesAt_owing (c : Dev nD) (t : Fin (cfg0.N + 1)) : ((dats m 0 c).owesAt () t : sProp 𝕄) ⊢ owing c (left t.val) := by
  unfold Dat.owesAt Pipeline.owesWithin owing
  iintro ⟨%W, -, HO⟩
  iexists W; iexact HO
theorem owing_owesAt (c : Dev nD) (t : Fin (cfg0.N + 1)) : (owing c (left t.val) : sProp 𝕄) ⊢ (dats m 0 c).owesAt () t := by
  unfold Dat.owesAt Pipeline.owesWithin owing
  iintro ⟨%W, HO⟩
  iexists W
  isplitr; · ipureintro; exact fun _ _ => Or.inl trivial
  iexact HO

/-- A point that leaves the output window alone, from what the body does there. -/
theorem idle_point (c : Dev nD) (t : Fin cfg0.N) (h : t.val ≠ 7)
    (hb : ∀ Y : Vec F S1x1024 .bf16,
      iprop(Φat m c t.val ∗ owing c (left t.val) ∗ owns (c : Thread nD τ) (st0_0 t) fullShare (xblk m c t.val) ∗ owns (c : Thread nD τ) (st0_1 t) fullShare Y)
        ⊢ runs c (bodyAt0 t) fun _ => iprop(Φat m c (t.val + 1) ∗ owing c (left (t.val + 1))
          ∗ owns (c : Thread nD τ) (st0_0 t) fullShare (xblk m c t.val) ∗ owns (c : Thread nD τ) (st0_1 t) fullShare Y)) :
    iprop(Φat m c t.val ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)))
      ⊢ runs c (bodyAt0 t) fun _ => iprop(Φat m c (t.val + 1) ∗ (dats m 0 c).owesAt () t.succ
        ∗ owns (c : Thread nD τ) (st0_0 t) fullShare (xblk m c t.val)
        ∗ (∃ d, owns (c : Thread nD τ) (st0_1 t) fullShare ((dats m 0 c).before 1 t d))) := by
  iintro ⟨HΦ, HO, ⟨%d0, Hx⟩, %d, Hy⟩
  rw [before_x]
  ihave HO := (owesAt_owing m c t.castSucc) $$ HO
  iapply (wp_wand_r frame (wpE defs₀ 𝒱₀ (c : Thread nD τ) none) Set.univ (Q := fun _ => iprop(Φat m c (t.val + 1) ∗ owing c (left (t.val + 1))
          ∗ owns (c : Thread nD τ) (st0_0 t) fullShare (xblk m c t.val) ∗ owns (c : Thread nD τ) (st0_1 t) fullShare ((dats m 0 c).before 1 t d))))
  isplitl
  · iapply (hb _)
    isplitl [HΦ]; · iexact HΦ
    isplitl [HO]; · iexact HO
    isplitl [Hx]; · iexact Hx
    iexact Hy
  iintro %_ ⟨HΦ, HO, Hx, Hy⟩
  ihave HO := (show (owing c (left (t.val + 1)) : sProp 𝕄) ⊢ (dats m 0 c).owesAt () t.succ from owing_owesAt m c t.succ) $$ HO
  isplitl [HΦ]; · iexact HΦ
  isplitl [HO]; · iexact HO
  isplitl [Hx]; · iexact Hx
  iexists d; iexact Hy

/-- The last point, which writes the output window. -/
theorem last_point (c : Dev nD) (t : Fin cfg0.N)
    (hb : ∀ Y : Vec F S1x1024 .bf16,
      iprop(Φat m c t.val ∗ owing c (left t.val) ∗ owns (c : Thread nD τ) (st0_0 t) fullShare (xblk m c t.val) ∗ owns (c : Thread nD τ) (st0_1 t) fullShare Y)
        ⊢ runs c (bodyAt0 t) fun _ => iprop(Φat m c (t.val + 1) ∗ owing c (left (t.val + 1))
          ∗ owns (c : Thread nD τ) (st0_0 t) fullShare (xblk m c t.val) ∗ owns (c : Thread nD τ) (st0_1 t) fullShare (outRow m c))) :
    iprop(Φat m c t.val ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)))
      ⊢ runs c (bodyAt0 t) fun _ => iprop(Φat m c (t.val + 1) ∗ (dats m 0 c).owesAt () t.succ
        ∗ owns (c : Thread nD τ) (st0_0 t) fullShare (xblk m c t.val) ∗ owns (c : Thread nD τ) (st0_1 t) fullShare (outRow m c)) := by
  iintro ⟨HΦ, HO, ⟨%d0, Hx⟩, %d, Hy⟩
  rw [before_x]
  ihave HO := (owesAt_owing m c t.castSucc) $$ HO
  iapply (wp_wand_r frame (wpE defs₀ 𝒱₀ (c : Thread nD τ) none) Set.univ (Q := fun _ => iprop(Φat m c (t.val + 1) ∗ owing c (left (t.val + 1))
          ∗ owns (c : Thread nD τ) (st0_0 t) fullShare (xblk m c t.val) ∗ owns (c : Thread nD τ) (st0_1 t) fullShare (outRow m c))))
  isplitl
  · iapply (hb _)
    isplitl [HΦ]; · iexact HΦ
    isplitl [HO]; · iexact HO
    isplitl [Hx]; · iexact Hx
    iexact Hy
  iintro %_ ⟨HΦ, HO, Hx, Hy⟩
  ihave HO := (show (owing c (left (t.val + 1)) : sProp 𝕄) ⊢ (dats m 0 c).owesAt () t.succ from owing_owesAt m c t.succ) $$ HO
  isplitl [HΦ]; · iexact HΦ
  isplitl [HO]; · iexact HO
  isplitl [Hx]; · iexact Hx
  iexact Hy

/-- The body obligation on device `c`. -/
theorem body_obligation (c : Dev nD) : BodyObligation (dats m 0 c) defs₀ 𝒱₀ () Set.univ := fun t => by
  rw [bigSep_W0, bigSep_W0]
  by_cases h7 : t.val = 7
  · simp only [out_live t h7]
    show iprop(Φat m c t.val ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)))
      ⊢ runs c (bodyAt0 t) fun _ => iprop(Φat m c (t.val + 1) ∗ (dats m 0 c).owesAt () t.succ
        ∗ owns (c : Thread nD τ) (st0_0 t) fullShare (xblk m c t.val) ∗ owns (c : Thread nD τ) (st0_1 t) fullShare (outRow m c))
    refine last_point m c t fun Y => ?_
    have h := body_last m c (grid0.coords t) (win0_0.stage (cfg0.slots t 0)) (hstage0_0 ((cfg0.slots t 0).cast nbuf0_0))
      (win0_1.stage (cfg0.slots t 1)) (hstage0_1 ((cfg0.slots t 1).cast nbuf0_1))
      (fun h => by have := (cond1_iff t).mp h; omega) (fun h => by have := (isFirst_iff t).mp h; omega)
      ((isLater_iff t).mpr (by omega)) ((cond4_iff t).mpr h7) Y
    rw [h7]
    exact h
  · simp only [out_idle t h7, out_kept t h7]
    show iprop(Φat m c t.val ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d)))
      ⊢ runs c (bodyAt0 t) fun _ => iprop(Φat m c (t.val + 1) ∗ (dats m 0 c).owesAt () t.succ
        ∗ owns (c : Thread nD τ) (st0_0 t) fullShare (xblk m c t.val)
        ∗ (∃ d, owns (c : Thread nD τ) (st0_1 t) fullShare ((dats m 0 c).before 1 t d)))
    refine idle_point m c t h7 fun Y => ?_
    have h4 : ¬ k0_cond4 (grid0.coords t) = 1#1 := fun h => h7 ((cond4_iff t).mp h)
    by_cases h0 : t.val = 0
    · have h := body_first m c (grid0.coords t) (win0_0.stage (cfg0.slots t 0)) (hstage0_0 ((cfg0.slots t 0).cast nbuf0_0))
        (win0_1.stage (cfg0.slots t 1)) (hstage0_1 ((cfg0.slots t 1).cast nbuf0_1))
        ((cond1_iff t).mpr h0) ((isFirst_iff t).mpr h0) (fun h => (isLater_iff t).mp h h0) h4 Y
      rw [h0]
      exact h
    · obtain ⟨k, hk⟩ : ∃ k, t.val = k + 1 := ⟨t.val - 1, by omega⟩
      have hk7 : k + 1 < 7 := by have := lt_eight t; omega
      have h := body_mid m c (grid0.coords t) (win0_0.stage (cfg0.slots t 0)) (hstage0_0 ((cfg0.slots t 0).cast nbuf0_0))
        (win0_1.stage (cfg0.slots t 1)) (hstage0_1 ((cfg0.slots t 1).cast nbuf0_1))
        k (fun h => h0 ((cond1_iff t).mp h)) (fun h => h0 ((isFirst_iff t).mp h)) ((isLater_iff t).mpr h0) h4 Y
      have hk6 : k < 7 := by omega
      rw [hk, show Φat m c (k + 1) = Φk m c k from if_pos hk6, show Φat m c (k + 1 + 1) = Φk m c (k + 1) from if_pos hk7,
        show left (k + 1) = 3 from if_pos hk6, show left (k + 1 + 1) = 3 from if_pos hk7]
      exact h

end Cert.KernelIdealProof

end
-- ==== Proof.KernelIdeal.Launch.lean ====
/-
# The launch

What is set up before the devices start: the records of all their semaphores, the tokens dealt to the devices that pay
with them, the credit for what each will receive, the two scratch buffers.
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores of a device -/

/-- A device's own six semaphores are those of the copies and of the slots; -/
abbrev osem : Fin 3 ⊕ Fin 3 → SemLoc sig := fun k => loc (.inr k)
theorem ownSemFacts : Pipeline.OwnSemFacts cfg0.spec osem := by decide

/-- its barrier is the one it is given from outside; -/
theorem outer_sem (c : Dev nD) : (unscopedSems0 c : sProp 𝕄) = semVal (cell c bar) 0 := by
  unfold unscopedSems0; rw [bigSep_eq_bigSepL_of_eq [SemLoc.reg barS] (by decide) (by decide)]; rfl

/-- together the seven. -/
theorem all_sems (c : Dev nD) : (bigSep Finset.univ fun k : Sm => (semVal (cell c k) 0 : sProp 𝕄))
    = iprop(unscopedSems0 c ∗ Pipeline.ownSems0 (Ix := Unit) (Name := ℕ) (U := UU) (Lvl := ℕ) (Val := Elt F) (τ := τ) osem c) := by
  rw [bigSep_univ_sum, outer_sem, bigSep_univ_eq_bigSepL [()] (by decide) (by decide)]; rfl

/-! ## The records and the tokens -/

def allCells : Finset (GSem nD τ sig) := Finset.univ.map ⟨fun ck : Dev nD × Sm => cell ck.1 ck.2, cell_injective⟩

theorem tok_injective : Function.Injective fun x : (Dev nD × Sm) × Fin 3 => ((cell x.1.1 x.1.2, 0, x.2) : GSem nD τ sig × ℕ × Fin 3) := by
  rintro ⟨a, d⟩ ⟨b, e⟩ h
  have h1 : a = b := cell_injective (congrArg Prod.fst h)
  have h2 : d = e := congrArg (fun y : GSem nD τ sig × ℕ × Fin 3 => y.2.2) h
  rw [h1, h2]

/-- A token for each of three duties at every semaphore, more than are used. -/
def allToks : Finset (GSem nD τ sig × ℕ × Fin 3) := Finset.univ.map ⟨_, tok_injective⟩

def u₀ : UU := (initOf (Pipeline.cells cfgs cellOf_inj) (Pipeline.launchToks cfgs cellOf_inj), initOf allCells allToks)

/-- The tokens of device `c`'s semaphores. -/
def minted (c : Dev nD) : sProp 𝕄 := bigSep Finset.univ fun k : Sm => bigSep Finset.univ fun d : Fin 3 => dutyTok ER (cell c k) 0 d
/-- The places of device `c`. -/
def places (c : Dev nD) : sProp 𝕄 := bigSep Finset.univ fun k : Sm => atPos ER (cell c k) 0 ∅ 0

/-- What each device starts from, before the records are made. -/
def G (c : Dev nD) : sProp 𝕄 :=
  iprop((bigSep Finset.univ fun k : Sm => roundState ER (Rd m) (cell c k) 0) ∗ (bigSep Finset.univ fun k : Sm => reached ER (cell c k) 0)
    ∗ places c ∗ minted c)

/-- The initial element of the protocol makes it. -/
theorem fund_all : BI.own (ER (initOf allCells allToks)) ⊢ (|==> bigSep Finset.univ (G m) : sProp 𝕄) := by
  have hC (Φ : GSem nD τ sig → sProp 𝕄) : bigSep allCells Φ = bigSep Finset.univ fun c : Dev nD => bigSep Finset.univ fun k : Sm => Φ (cell c k) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod, bigSep_univ_prod]; rfl
  refine (Rounds.fund ER (Rd m) allCells allToks).trans (show _ ⊢ (_ : sProp 𝕄) from ?_)
  rw [hC, hC, hC, hT, ← bigSep_sep', ← bigSep_sep', ← bigSep_sep']
  exact BI.Entails.refl _

/-- Anything said of every device and every distance may be said of the device that far on. -/
theorem around (Φ : Dev nD → Fin 3 → sProp 𝕄) :
    (bigSep Finset.univ fun c => bigSep Finset.univ fun i => Φ c i) = bigSep Finset.univ fun c => bigSep Finset.univ fun i => Φ (up c i) i := by
  have swap (Ψ : Dev nD → Fin 3 → sProp 𝕄) :
      (bigSep Finset.univ fun c => bigSep Finset.univ fun i => Ψ c i) = bigSep Finset.univ fun i => bigSep Finset.univ fun c => Ψ c i :=
    (bigSep_univ_prod fun x : Dev nD × Fin 3 => Ψ x.1 x.2).symm.trans
      ((bigSep_univ_equiv (Equiv.prodComm (Fin 3) (Dev nD)) _).trans (bigSep_univ_prod _))
  rw [swap, swap]
  exact bigSep_congr fun i _ => bigSep_univ_equiv (shift i) fun c => Φ c i

/-- Of a device's tokens those in use: three at its barrier, one at each of the others. -/
theorem minted_used (c : Dev nD) : (minted c : sProp 𝕄)
    ⊢ iprop((bigSep Finset.univ fun i : Fin 3 => dutyTok ER (cell c bar) 0 i) ∗ (bigSep Finset.univ fun i : Fin 3 => dutyTok ER (cell c (snd i)) 0 0)
      ∗ bigSep Finset.univ fun i : Fin 3 => dutyTok ER (cell c (rcv i)) 0 0) := by
  unfold minted
  rw [bigSep_univ_sum, bigSep_univ_sum, bigSep_univ_eq_bigSepL [()] (by decide) (by decide)]
  refine sep_mono (BI.Entails.refl _) (sep_mono ?_ ?_)
  · exact bigSep_mono fun i _ => bigSep_elim (Finset.mem_univ (0 : Fin 3)) (Φ := fun d => (dutyTok ER (cell c (snd i)) 0 d : sProp 𝕄))
  · exact bigSep_mono fun i _ => bigSep_elim (Finset.mem_univ (0 : Fin 3)) (Φ := fun d => (dutyTok ER (cell c (rcv i)) 0 d : sProp 𝕄))

/-- Dealt to the devices that pay with them. -/
theorem deal : (bigSep Finset.univ fun c : Dev nD => (minted c : sProp 𝕄)) ⊢ bigSep Finset.univ fun c : Dev nD => iprop(raises c ∗ copies c) := by
  refine (bigSep_mono fun c _ => minted_used c).trans ?_
  unfold raises copies
  simp only [bigSep_sep']
  rw [← around fun (c : Dev nD) i => (dutyTok ER (cell c bar) 0 i.rev : sProp 𝕄),
    ← around fun (c : Dev nD) i => (dutyTok ER (cell c (rcv i)) 0 0 : sProp 𝕄),
    show (bigSep Finset.univ fun c : Dev nD => bigSep Finset.univ fun i : Fin 3 => (dutyTok ER (cell c bar) 0 i : sProp 𝕄))
        = bigSep Finset.univ fun c : Dev nD => bigSep Finset.univ fun i : Fin 3 => dutyTok ER (cell c bar) 0 i.rev from
      bigSep_congr fun c _ => bigSep_univ_equiv Fin.revPerm fun i => (dutyTok ER (cell c bar) 0 i : sProp 𝕄)]
  exact BI.Entails.refl _

/-! ## The records of all devices at once -/

/-- What a device has once the records are made. -/
def G' (c : Dev nD) : sProp 𝕄 := iprop((∃ K, known m K) ∗ places c ∗ raises c ∗ copies c)

/-- One device's seven records. -/
theorem records_of (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Sm => iprop(∃ κ : ℕ, cellInv ER (Rd m) κ (cell c k)))
        ∗ (bigSep Finset.univ fun k : Sm => reached ER (cell c k) 0) ∗ places c ∗ minted c) := by
  have make : iprop((bigSep Finset.univ fun k : Sm => semVal (cell c k) 0) ∗ bigSep Finset.univ fun k : Sm => roundState ER (Rd m) (cell c k) 0)
      ⊢ (|={Set.univ}=> bigSep Finset.univ fun k : Sm => iprop(∃ κ : ℕ, cellInv ER (Rd m) κ (cell c k)) : sProp 𝕄) := by
    rw [← bigSep_sep']
    exact (bigSep_mono fun k _ => (Rounds.body_intro ER (Rd m) (cell c k)).trans inv_alloc).trans (bigSep_fupd _ _)
  unfold G
  iintro ⟨Ho, Hu, Hst, Hrest⟩
  imod make $$ [Ho Hu Hst] with Hi
  · rw [all_sems]
    isplitl [Ho Hu]
    · isplitl [Hu]; · iexact Hu
      iexact Ho
    iexact Hst
  imodintro
  isplitl [Hi]; · iexact Hi
  iexact Hrest

/-- The records of all, known to all. -/
theorem shared : (bigSep Finset.univ fun c : Dev nD => iprop((bigSep Finset.univ fun k : Sm => iprop(∃ κ : ℕ, cellInv ER (Rd m) κ (cell c k)))
        ∗ (bigSep Finset.univ fun k : Sm => reached ER (cell c k) 0) ∗ places c ∗ minted c) : sProp 𝕄)
      ⊢ bigSep Finset.univ (G' m) := by
  simp only [bigSep_sep']
  rw [← bigSep_univ_prod (fun ck : Dev nD × Sm => iprop(∃ κ : ℕ, cellInv ER (Rd m) κ (cell ck.1 ck.2))),
    ← bigSep_univ_prod (fun ck : Dev nD × Sm => (reached ER (cell ck.1 ck.2) 0 : sProp 𝕄))]
  iintro ⟨HI, #HR, Hp, Ht⟩
  ihave HK := (BI.bigSep_exists_pi Finset.univ (fun (ck : Dev nD × Sm) (κ : ℕ) => (cellInv ER (Rd m) κ (cell ck.1 ck.2) : sProp 𝕄))) $$ HI
  icases HK with ⟨%K, #HI⟩
  ihave Ht := deal $$ Ht
  ihave #HK := (show iprop((bigSep Finset.univ fun ck : Dev nD × Sm => cellInv ER (Rd m) (K ck) (cell ck.1 ck.2))
      ∗ bigSep Finset.univ fun ck : Dev nD × Sm => reached ER (cell ck.1 ck.2) 0) ⊢ known m K from BI.Entails.refl _) $$ [HI HR]
  · isplitr; · iexact HI
    iexact HR
  have each (c : Dev nD) : iprop(known m K ∗ places c ∗ raises c ∗ copies c) ⊢ G' m c := by
    unfold G'
    iintro ⟨#HK, H⟩
    isplitr; · iexists K; iexact HK
    iexact H
  iapply ((sep_mono_left (BI.bigSep_of_persistent (Finset.univ : Finset (Dev nD)) (known m K))).trans
    ((Entails.of_eq (bigSep_sep' Finset.univ (fun _ => known m K) fun c : Dev nD => iprop(places c ∗ raises c ∗ copies c)).symm).trans
      (bigSep_mono fun c _ => each c)))
  isplitr; · iexact HK
  iapply (Entails.of_eq (bigSep_sep' Finset.univ (fun c : Dev nD => places c) fun c => iprop(raises c ∗ copies c)).symm)
  isplitl [Hp]; · iexact Hp
  iexact Ht

/-- The step all devices take together before they start. -/
theorem all_start : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => records_of m c).trans (bigSep_fupd _ _)).trans (BI.fupd_mono (shared m))

/-! ## The credit -/

/-- The credit for what all owe is that for their last payment and that for the rest. -/
theorem credit_step (n : ℕ) (c : Dev nD) : (Pipeline.launchCred (due · (n + 1)) c : sProp 𝕄)
    = iprop(Pipeline.launchCred (due · n) c ∗ Pipeline.launchCred (fun d => tallyAt (payee d n).1 () (payee d n).2) c) :=
  Pipeline.launchCred_add _ _ c

/-- When everyone's payment `n` goes to the device `i + 1` places on, everyone is paid once. -/
theorem credit_of (n : ℕ) (i : Fin 3) (k : Sm) (x : ℕ) (h : ∀ d, payee d n = (cell (up d i) k, x)) (c : Dev nD) :
    (Pipeline.launchCred (fun d => tallyAt (payee d n).1 () (payee d n).2) c : sProp 𝕄) ⊢ cred (tallyAt (cell c k) () x) := by
  simp only [h]
  exact Pipeline.launchCred_tallyAt (loc k) (up · i) (up · i.rev) (up_rev_up · i) (up_up_rev · i) () x c

/-- Three raises are a credit of three. -/
theorem credit_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) by rw [tallyAt_add, tallyAt_add]]
  exact (sep_mono_right (cred_add _ _).2).trans (cred_add _ _).2

/-- What a device is dealt for all it will be paid. -/
theorem credits (c : Dev nD) : (Pipeline.launchCred (due · 6) c : sProp 𝕄)
    ⊢ iprop(cred (tallyAt (cell c bar) () 3) ∗ bigSep Finset.univ fun i : Fin 3 => cred (tallyAt (cell c (rcv i)) () N)) := by
  rw [credit_step 5, credit_step 4, credit_step 3, credit_step 2, credit_step 1, credit_step 0, three]
  iintro ⟨⟨⟨⟨⟨⟨-, H2⟩, H1⟩, H0⟩, B2⟩, B1⟩, B0⟩
  ihave H2 := (credit_of 0 2 (rcv 2) N (fun _ => rfl) c) $$ H2
  ihave H1 := (credit_of 1 1 (rcv 1) N (fun _ => rfl) c) $$ H1
  ihave H0 := (credit_of 2 0 (rcv 0) N (fun _ => rfl) c) $$ H0
  ihave B2 := (credit_of 3 2 bar 1 (fun _ => rfl) c) $$ B2
  ihave B1 := (credit_of 4 1 bar 1 (fun _ => rfl) c) $$ B1
  ihave B0 := (credit_of 5 0 bar 1 (fun _ => rfl) c) $$ B0
  isplitl [B0 B1 B2]
  · iapply (credit_three (cell c bar))
    isplitl [B0]; · iexact B0
    isplitl [B1]; · iexact B1
    iexact B2
  isplitl [H0]; · iexact H0
  isplitl [H1]; · iexact H1
  iexact H2

/-! ## The buffers -/

theorem accPts_whole (c : Dev nD) (f : Vec F S1x1024 .bf16) :
    (accPts c fullShare f : sProp 𝕄) = ((c : Thread nD τ).loc cc0_scratch0 ↦{fullShare} f) := by
  unfold accPts; rw [show accM.view.set = Finset.univ from View.set_whole _]

theorem slot_set (i : Fin 3) : (slotM i).view.set = (slotR i).set := by
  simp only [slotM, Memref.view_squeeze, View.set_reshape]; exact View.set_slice_whole _ _

theorem slots_apart (i j : Fin 3) (h : i ≠ j) : Disjoint (slotR i).set (slotR j).set :=
  Ring.lead_disjoint (s := S3x1x1024) (0 : Fin 3) 1 (fun i : Fin 3 => ![i.val, 0, 0]) S1x1x1024.size slot_inb (fun i => (Nat.one_mul _).symm) rfl i j h
theorem slots_all : Finset.univ.biUnion (fun i => (slotR i).set) = Finset.univ :=
  Ring.lead_cover (s := S3x1x1024) (0 : Fin 3) 1 (fun i : Fin 3 => ![i.val, 0, 0]) S1x1x1024.size slot_inb (fun i => (Nat.one_mul _).symm)
    (fun i a h => by fin_cases a <;> first | exact absurd rfl h | rfl) rfl (fun a h => by fin_cases a <;> first | exact absurd rfl h | rfl) rfl

theorem slotPts_eq (c : Dev nD) (i : Fin 3) (f : Vec F S3x1x1024 .bf16) :
    (slotPts c i f : sProp 𝕄) = ((c : Thread nD τ).loc cc0_scratch1 ↦[(slotR i).set]{fullShare} f) := by
  unfold slotPts; rw [slot_set]

/-- The receive buffer is its three slots. -/
theorem slots_split (c : Dev nD) (f : Vec F S3x1x1024 .bf16) :
    ((c : Thread nD τ).loc cc0_scratch1 ↦{fullShare} f : sProp 𝕄) ⊢ bigSep Finset.univ fun i => iprop(∃ f, slotPts c i f) := by
  rw [Ring.pointsTo_blocks (ℓ := (c : Thread nD τ).loc cc0_scratch1) (fun i : Fin 3 => (slotR i).set) slots_apart slots_all f]
  have one (i : Fin 3) : (slotPts c i f : sProp 𝕄) ⊢ iprop(∃ f, slotPts c i f) := by iintro H; iexists f; iexact H
  exact bigSep_mono fun i _ => (Entails.of_eq (slotPts_eq c i f).symm).trans (one i)
theorem slots_join (c : Dev nD) (f : Vec F S3x1x1024 .bf16) :
    (bigSep Finset.univ fun i => iprop(∃ f, slotPts c i f) : sProp 𝕄) ⊢ iprop(∃ f, (c : Thread nD τ).loc cc0_scratch1 ↦{fullShare} f) := by
  simp only [slotPts_eq]
  exact Ring.pointsTo_blocks_join_exists (ℓ := (c : Thread nD τ).loc cc0_scratch1) (fun i : Fin 3 => (slotR i).set) slots_apart slots_all f

/-! ## The first and the last state -/

def start (c : Dev nD) : sProp 𝕄 := iprop(lasting m c ∗ raises c)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (due · 6) c ∗ prngReg c (ρ c) ∗ G' m c)
      ⊢ |={Set.univ}=> iprop(start m c ∗ emp) := by
  iintro ⟨-, HL, Hc, -, HG⟩
  ihave Hc := (credits c) $$ Hc
  unfold G' start lasting waits places
  icases HG with ⟨HK, Hp, Hr, Ht⟩
  imodintro
  isplitl; swap; · iempintro
  isplitr [Hr]; swap; · iexact Hr
  isplitl [HK]; · iexact HK
  isplitl [Hp Hc]
  · isplitl [Hp]; · iexact Hp
    iexact Hc
  isplitl [Ht]; · iexact Ht
  iexact HL

theorem first_state (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start
  iintro ⟨⟨Hl, Hr⟩, -, ⟨%f, Ha⟩, %g, Hs⟩
  isplitl [Hl]; · iexact Hl
  isplitl [Hr]; · iexact Hr
  isplitl [Ha]; · iexists f; rw [accPts_whole]; iexact Ha
  iapply (slots_split c g); iexact Hs

theorem last_state (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φe c from rfl, scopedRest0_eq]
  unfold Φe
  rw [all_sems]
  iintro ⟨⟨%f, Ha⟩, Hs, Hu, Ho⟩
  isplitl [Hu]; · iexact Hu
  isplitl [Ho]; · iexact Ho
  isplitl [Ha]; · iexists f; rw [← accPts_whole]; iexact Ha
  iapply (slots_join c (fun _ => (Elt.inhabited F .bf16).default)); iexact Hs

/-- The pipeline's own waits come before everything else. -/
theorem stage_waits (c : Dev nD) : (levAts L lv : sProp 𝕄) ⊢ Pipeline.cellsWaits cfgs (dats m) () 0 c :=
  Pipeline.cellsWaits_intro cfgs (dats m) () 0 c fun w s t => mayWait_low c _ (by fin_cases w <;> fin_cases s <;> rfl) (left t.val)

end Cert.KernelIdealProof

end
-- ==== Proof.KernelIdeal.Run.lean ====
/-
# The run

The launch's set-up, every device's body and the exit put together: from any memory, with every counter at zero, the
four devices end with their argument unchanged, their result array at the joint row and every counter at zero again.
-/
module

public import proofs.«01_k».proof.Proof.KernelIdeal.Launch
public import Idealize.ShloMosaic.Lib.Pipeline.Value
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-- The machine before the launch: any memory, every counter at zero. -/
def s₀ : MemSt nD τ sig (Elt F) := ⟨m, fun _ => 0, ρ⟩

/-- Every window's array is held whole. -/
theorem share_eq (c : Dev nD) (w : Fin cfg0.W) : (dats m 0 c).share w = fullShare := by
  unfold Dat.share; split <;> rfl

set_option maxRecDepth 8000 in
/-- Every execution ends, with each window's array at what the body's data say it holds after the last point and every
    counter at zero. -/
theorem run_arrays : θ_run defs (onTc (τ := τ) (main (F := F))) (s₀ m ρ) (fun r =>
    (∀ c : Dev nD, ∀ w : Fin cfg0.W, r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := (due · 6)) (howed₀ := fun _ => rfl) (howedN := fun _ => rfl)
    (L := L) (lv := lv) (hL := L_off) (hwaits := stage_waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := all_start m)
    (hA := fun _ _ => rfl) (hpf := fun _ k => k.elim0)
    (X := start m) (Y := fun c => unscopedSems0 c) (Z := fun _ => iprop(emp))
    (hX := start_intro m ρ) (hin := first_state m) (hout := last_state m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays -/

/-- The result's block is the whole of its array, at every point. -/
theorem out_block (t : Fin cfg0.N) (i : S1x1024.Idx) : ((cfg0.win 1).blk t).view.emb i = i := by
  funext a
  exact Fin.ext (win0_1.rect_emb_val_of_index_zero t a (by fin_cases a <;> rfl) i)

/-- The result array ends at the joint row. -/
theorem out_final (c : Dev nD) : (dats m 0 c).arrAt 1 cfg0.N = outRow m c := by
  refine (dats m 0 c).arrAt_eq_of_cover 1 (outRow m c) (fun t ht => ?_) (fun i => ⟨⟨7, by decide⟩, by decide +kernel, ?_⟩)
  · funext i
    rw [View.read_apply]
    exact congrArg (outRow m c) (out_block t i).symm
  · have h := ((cfg0.win 1).blk ⟨7, by decide⟩).view.emb_mem_set i
    rwa [out_block] at h

/-- Every execution ends, with the argument unchanged and the joint row in the result on every device, and every
    counter at zero. -/
theorem run : θ_run defs (onTc (τ := τ) (main (F := F))) (s₀ m ρ) (fun r =>
    (∀ c : Dev nD, r.2.mem ((c : Thread nD τ).loc main_v1) = outRow m c
      ∧ r.2.mem ((c : Thread nD τ).loc main_arg0) = m ((c : Thread nD τ).loc main_arg0)) ∧ r.2.sem = fun _ => 0) :=
  (θ_run defs _ _).mono (fun _ h => ⟨fun c => ⟨(h.1 c 1).trans (out_final m c), (h.1 c 0).trans ((dats m 0 c).arrAt_in 0 rfl _)⟩, h.2⟩)
    (run_arrays m ρ)

end Cert.KernelIdealProof

end
-- ==== Proof.Least.lean ====
/-
# The value a maximum starts from
-/
module

public import Idealize.ShloMosaic.PureOps.Ideal.Laws

@[expose] public section

noncomputable section

namespace Cert

open Idealize.ShloMosaic

/-- The bfloat16 pattern of minus infinity is the least extended real. -/
theorem start_bot : (FloatOps.ofBits .bf16 0xFF80#16 : Ideal .bf16) = (⊥ : EReal) := by
  show Ideal.ofBits .bf16 0xFF80#16 = ⊥
  simp [Ideal.ofBits, Ideal.ieee]

end Cert

end
-- ==== Proof.KernelIdeal.Values.lean ====
/-
# What the kernel computes, over the extended reals

A maximum is told by its upper bounds: each theorem here says when a value the kernel holds is at most `z`. A block's row
is at most `z` when the block's column is; the running row, when the columns of all blocks read so far are; the joint row,
when the columns of all four devices are. So the four devices end with one and the same row.
-/
module

public import proofs.«01_k».proof.Proof.KernelIdeal.Run
public import Idealize.ShloMosaic.Lib.ValueLayout
public import proofs.«01_k».proof.Proof.Least

@[expose] public section

noncomputable section

namespace Cert.KernelIdealProof

open Cert.KernelIdeal Cert.KernelIdeal.Gen

open Idealize.ShloMosaic
open Idealize.ShloMosaic.TcCoe
open Idealize.ShloMosaic.ValueIdx

variable (m : (ℓ : Loc nD τ sig) → Buf (Elt Ideal) ℓ)

/-! ## One block -/

/-- The rows of a block that a column's maximum runs over. -/
theorem block_lift (h : S256x1024.Reduces [0] S1024) (l : Fin 1024) (k : Fin 256) : h.lift (ix1 l) k = ix2 k l := by
  funext a
  refine Fin.ext ?_
  match a with
  | ⟨0, _⟩ => rfl
  | ⟨1, _⟩ => rfl

/-- The maximum over the rows of a block, from the least value on, is at a column the maximum of that column. -/
theorem max_rows (v : FVec Ideal S256x1024 .bf16) (acc : BitVec 16) (h : S256x1024.Reduces [0] S1024) (hφ : FKind.Formats .bf16)
    (hacc : acc = FKind.maximumf.neutral .bf16 hφ) (hb : (FloatOps.ofBits .bf16 acc : Ideal .bf16) = (⊥ : EReal)) (l : Fin 1024) :
    multiReduction .maximumf [0] S1024 v acc h hφ hacc (ix1 l) = (Finset.univ : Finset (Fin 256)).fold max (⊥ : EReal) fun k => v (ix2 k l) := by
  refine (Ideal.multiReduction_maximumf_single v acc h hφ hacc (ix1 l)).trans ?_
  rw [hb]
  exact congrArg (fun f => Finset.fold max (⊥ : EReal) f (Finset.univ : Finset (Fin 256))) (funext fun k => congrArg v (block_lift h l k))

/-- A block's row holds, at a column, the maximum of that column. -/
theorem pay1_apply (v : Vec Ideal S256x1024 .bf16) (l : Fin 1024) :
    k0_pay1 v (ix2 0 l) = (Finset.univ : Finset (Fin 256)).fold max (⊥ : EReal) fun k => v (ix2 k l) := by
  unfold k0_pay1
  refine (shapeCast_a_1a_apply _ _ 0 l).trans ((max_rows _ _ _ _ _ start_bot l).trans ?_)
  rw [shapeCast_self]

/-- So it is at most `z` when the whole column is. -/
theorem pay1_le (v : Vec Ideal S256x1024 .bf16) (l : Fin 1024) (z : EReal) :
    (k0_pay1 v (ix2 0 l) : EReal) ≤ z ↔ ∀ k : Fin 256, (v (ix2 k l) : EReal) ≤ z := by
  rw [pay1_apply, Finset.fold_max_le]
  simp only [bot_le, true_and, Finset.mem_univ, forall_true_left]

/-! ## One device -/

/-- The input of device `c`. -/
abbrev inp (c : Dev nD) : Vec Ideal S2048x1024 .bf16 := m ((c : Thread nD τ).loc main_arg0)

/-- Where block `t` starts. -/
theorem block_index : ∀ t : Fin cfg0.N, win0_0.index t 0 = t.val ∧ win0_0.index t 1 = 0 :=
  (by decide +kernel : ∀ t : Fin grid0.N, win0_0.index t 0 = t.val ∧ win0_0.index t 1 = 0)

/-- Block `k` of device `c`'s input, read at its row `j`, is row `256 k + j` of that input. -/
theorem xblk_apply (c : Dev nD) (k : ℕ) (hk : k < 8) (j : Fin 256) (l : Fin 1024) :
    xblk m c k (ix2 j l) = inp m c (ix2 (⟨256 * k + j.val, by omega⟩ : Fin 2048) l) := by
  unfold xblk iblk
  rw [View.read_apply]
  refine congrArg (inp m c) (funext fun a => Fin.ext ?_)
  refine (win0_0.rect_emb_val _ (ix2 j l) a).trans ?_
  match a with
  | ⟨0, _⟩ =>
    show win0_0.index _ 0 * 256 + j.val = 256 * k + j.val
    rw [(block_index _).1]
    show k % 8 * 256 + j.val = 256 * k + j.val
    omega
  | ⟨1, _⟩ =>
    show win0_0.index _ 1 * 1024 + l.val = l.val
    rw [(block_index _).2]
    omega

/-- The running row after point `k` is at most `z` at a column when that column of the blocks up to `k` is. -/
theorem part_le (c : Dev nD) (k : ℕ) (l : Fin 1024) (z : EReal) :
    (part m c k (ix2 0 l) : EReal) ≤ z ↔ ∀ k' ≤ k, ∀ j : Fin 256, (xblk m c k' (ix2 j l) : EReal) ≤ z := by
  induction k with
  | zero =>
    show (k0_pay2 (xblk m c 0) (ix2 0 l) : EReal) ≤ z ↔ _
    unfold k0_pay2
    rw [shapeCast_self, pay1_le]
    exact ⟨fun h k' hk' => by rwa [Nat.le_zero.mp hk'], fun h => h 0 le_rfl⟩
  | succ k ih =>
    show (k0_pay3 (xblk m c (k + 1)) (part m c k) (ix2 0 l) : EReal) ≤ z ↔ _
    unfold k0_pay3
    rw [shapeCast_self]
    show max (part m c k (ix2 0 l) : EReal) (k0_pay1 (xblk m c (k + 1)) (ix2 0 l)) ≤ z ↔ _
    rw [max_le_iff, ih, pay1_le]
    refine ⟨fun ⟨h, h'⟩ k' hk' => ?_, fun h => ⟨fun k' hk' => h k' (Nat.le_succ_of_le hk'), h _ le_rfl⟩⟩
    rcases Nat.le_succ_iff.mp hk' with e | rfl
    exacts [h k' e, h']

/-- The row a device sends is at most `z` at a column when that column of its whole input is. -/
theorem row_le (c : Dev nD) (l : Fin 1024) (z : EReal) :
    (row m c (ix2 0 l) : EReal) ≤ z ↔ ∀ r : Fin 2048, (inp m c (ix2 r l) : EReal) ≤ z := by
  rw [part_le]
  refine ⟨fun h r => ?_, fun h k hk j => ?_⟩
  · have := h (r.val / 256) (by omega) ⟨r.val % 256, by omega⟩
    rw [xblk_apply m c _ (by omega)] at this
    rwa [show (⟨256 * (r.val / 256) + r.val % 256, by omega⟩ : Fin 2048) = r from Fin.ext (Nat.div_add_mod _ _)] at this
  · rw [xblk_apply m c k (by omega)]
    exact h _

/-! ## All four -/

/-- A row put into a slot and read back as a row is the row. -/
theorem asSlot_row (w : Vec Ideal S1x1024 .bf16) (h : S1x1x1024.ShapeCasts S1x1024) : shapeCast S1x1024 (asSlot w) h = w := by
  funext i
  unfold shapeCast asSlot
  exact congrArg w (Equiv.symm_apply_apply _ _)

/-- Any device is the one that sends to `c`, or `c` itself. -/
theorem every_dev (c d : Dev nD) : d = c ∨ d = up c 2 ∨ d = up c 0 ∨ d = up c 1 := by revert c d; decide

/-- The joint row is at most `z` at a column when that column of every device's input is — on whichever device. -/
theorem outRow_le (c : Dev nD) (l : Fin 1024) (z : EReal) :
    (outRow m c (ix2 0 l) : EReal) ≤ z
      ↔ ∀ (d : Dev nD) (r : Fin 2048), (inp m d (ix2 r l) : EReal) ≤ z := by
  unfold outRow k0_pay4
  have back (w : Vec Ideal S1x1024 .bf16) := congrFun (asSlot_row w shapeCasts_S1x1x1024_S1x1024) (ix2 0 l)
  show max (max (max (row m c (ix2 0 l) : EReal) (shapeCast S1x1024 (asSlot (row m (up c 2))) shapeCasts_S1x1x1024_S1x1024 (ix2 0 l)))
      (shapeCast S1x1024 (asSlot (row m (up c 0))) shapeCasts_S1x1x1024_S1x1024 (ix2 0 l)))
    (shapeCast S1x1024 (asSlot (row m (up c 1))) shapeCasts_S1x1x1024_S1x1024 (ix2 0 l)) ≤ z ↔ _
  rw [back, back, back]
  show max (max (max (row m c (ix2 0 l) : EReal) (row m (up c 2) (ix2 0 l))) (row m (up c 0) (ix2 0 l))) (row m (up c 1) (ix2 0 l)) ≤ z ↔ _
  rw [max_le_iff, max_le_iff, max_le_iff, row_le, row_le, row_le, row_le]
  refine ⟨fun ⟨⟨⟨h, h2⟩, h0⟩, h1⟩ d => ?_, fun h => ⟨⟨⟨h _, h _⟩, h _⟩, h _⟩⟩
  rcases every_dev c d with rfl | rfl | rfl | rfl
  exacts [h, h2, h0, h1]

end Cert.KernelIdealProof

end
-- ==== Proof.ReferenceIdeal.Values.lean ====
/-
# What the reference computes, over the extended reals

The reference takes the maximum of each column of the whole array at once, so its result is at most `z` at a column when
all 8192 elements of that column are.
-/
module

public import proofs.«01_k».proof.Proof.Gen.ReferenceIdeal.Run
public import Idealize.ShloMosaic.Lib.ValueIdxCore
public import Idealize.ShloMosaic.Lib.Pipeline.Value
public import proofs.«01_k».proof.Proof.Least

@[expose] public section

noncomputable section

namespace Cert.ReferenceIdealProof

open Cert.ReferenceIdeal Cert.ReferenceIdeal.Gen

open Idealize.ShloMosaic
open Idealize.ShloMosaic.TcCoe
open Idealize.ShloMosaic.ValueIdx
open Idealize.SL.Sem

/-- The reference's result from the whole input `x`: the maximum of its columns, laid out as one row. -/
def result (x : Vec Ideal S8192x1024 .bf16) : Vec Ideal S1x1024 .bf16 :=
  broadcastInDim S1x1024 ![1] bcast_S1024_S1x1024_1
    (Host.reduce FloatOps.maximumf x (constant S_ .bf16 0xFF80#16) reducesTo_S8192x1024_S1024_d0 h_S_ : FVec Ideal S1024 .bf16)

/-- Every execution of the reference ends, with that in its result, its argument unchanged and every counter at zero. -/
theorem run (m : (ℓ : Loc nD τ sig) → Buf (Elt Ideal) ℓ) (ρ : Dev nD → PrngReg) :
    θ_run defs (onTc (τ := τ) (main (F := Ideal))) ⟨m, fun _ => 0, ρ⟩ (fun r =>
      (∀ c : Dev nD, r.2.mem ((c.tc : Thread nD τ).loc main_v1) = result (m ((c.tc : Thread nD τ).loc main_arg0))
        ∧ r.2.mem ((c.tc : Thread nD τ).loc main_arg0) = m ((c.tc : Thread nD τ).loc main_arg0)) ∧ r.2.sem = fun _ => 0) :=
  (θ_run defs _ _).mono (fun r h => ⟨h, sem_eq_zero_of_no_sems rfl r.2⟩) (Value.run m ρ)

/-- The rows that a column's maximum runs over. -/
theorem whole_lift (h : S8192x1024.Reduces [0] S1024) (l : Fin 1024) (k : Fin 8192) : h.lift (ix1 l) k = ix2 k l := by
  funext a
  refine Fin.ext ?_
  match a with
  | ⟨0, _⟩ => rfl
  | ⟨1, _⟩ => rfl

/-- The reduction holds, at a column, the maximum of that column. -/
theorem reduce_apply (x : Vec Ideal S8192x1024 .bf16) (l : Fin 1024) :
    Host.reduce (FloatOps.maximumf (F := Ideal) (φ := .bf16)) x (constant S_ .bf16 0xFF80#16) reducesTo_S8192x1024_S1024_d0 h_S_ (ix1 l)
      = (Finset.univ : Finset (Fin 8192)).fold max (⊥ : EReal) fun k => x (ix2 k l) := by
  have h : S8192x1024.Reduces [0] S1024 := by decide
  refine (Host.reduce_eq_fold_single _ x _ reducesTo_S8192x1024_S1024_d0 h h_S_ (ix1 l)).trans ?_
  show Finset.fold max (FloatOps.ofBits .bf16 0xFF80#16 : Ideal .bf16) (x ∘ h.lift (ix1 l)) Finset.univ = _
  rw [start_bot]
  exact congrArg (fun f => Finset.fold max (⊥ : EReal) f (Finset.univ : Finset (Fin 8192))) (funext fun k => congrArg x (whole_lift h l k))

/-- The reference's result is at most `z` at a column when the whole column is. -/
theorem result_le (x : Vec Ideal S8192x1024 .bf16) (l : Fin 1024) (z : EReal) :
    (result x (ix2 0 l) : EReal) ≤ z ↔ ∀ k : Fin 8192, (x (ix2 k l) : EReal) ≤ z := by
  have e : result x (ix2 0 l) = (Finset.univ : Finset (Fin 8192)).fold max (⊥ : EReal) fun k => x (ix2 k l) := by
    unfold result
    refine (broadcastInDim_apply _ _ _ _ (ix1 l) fun a => ?_).trans (reduce_apply x l)
    match a with
    | ⟨0, _⟩ => rfl
  rw [e, Finset.fold_max_le]
  simp only [bot_le, true_and, Finset.mem_univ, forall_true_left]

end Cert.ReferenceIdealProof

end
-- ==== Proof.Equation.lean ====
/-
# The equation

The whole array's row `R` is row `R mod 2048` of device `R / 2048`. So the joint row of the four devices and the row of
the reference have the same upper bounds at every column, and are one row.
-/
module

public import proofs.«01_k».proof.Proof.KernelIdeal.Values
public import proofs.«01_k».proof.Proof.ReferenceIdeal.Values
public import Idealize.ShloMosaic.Lib.Layout

@[expose] public section

noncomputable section

namespace Cert.Equation

open Idealize.ShloMosaic
open Idealize.ShloMosaic.TcCoe
open Idealize.ShloMosaic.ValueIdx
open Cert.KernelIdealProof (inp outRow outRow_le)
open Cert.ReferenceIdealProof (result result_le)

/-- Row `r` of block `d` is row `2048 d + r` of the whole. -/
theorem block_row (x : Vec Ideal ⟨2, ![8192, 1024]⟩ .bf16) (d : Fin 4) (r : Fin 2048) (l : Fin 1024) :
    Layout.block ⟨2, ![2048, 1024]⟩ ⟨2, ![8192, 1024]⟩ 0 4 d x (by decide) (ix2 r l) = x (ix2 (⟨d.val * 2048 + r.val, by omega⟩ : Fin 8192) l) := by
  rw [Layout.block_apply]
  refine congrArg x (funext fun a => Fin.ext ?_)
  match a with
  | ⟨0, _⟩ => rfl
  | ⟨1, _⟩ => rfl

/-- When each device's input is its block of `x`, the joint row on every device is the reference's result on `x`. -/
theorem outRow_eq (m : (ℓ : Loc Cert.KernelIdeal.nD Cert.KernelIdeal.τ Cert.KernelIdeal.sig) → Buf (Elt Ideal) ℓ)
    (x : Vec Ideal ⟨2, ![8192, 1024]⟩ .bf16)
    (hx : ∀ c : Dev Cert.KernelIdeal.nD, inp m c = Layout.block ⟨2, ![2048, 1024]⟩ ⟨2, ![8192, 1024]⟩ 0 4 c x)
    (c : Dev Cert.KernelIdeal.nD) : outRow m c = result x := by
  funext i
  obtain ⟨u, l, rfl⟩ : ∃ (u : Fin 1) (l : Fin 1024), i = ix2 u l := ⟨_, _, eq_ix2 i⟩
  rw [Subsingleton.elim u 0]
  refine eq_of_forall_ge_iff fun z : EReal => ?_
  rw [outRow_le, result_le]
  refine ⟨fun h R => ?_, fun h d r => ?_⟩
  · have := h (⟨R.val / 2048, by omega⟩ : Fin 4) ⟨R.val % 2048, by omega⟩
    rw [hx, block_row] at this
    rwa [show (⟨R.val / 2048 * 2048 + R.val % 2048, by omega⟩ : Fin 8192) = R from Fin.ext (Nat.div_add_mod' _ _)] at this
  · rw [hx, block_row]
    exact h _

end Cert.Equation

end
-- ==== Proof.lean ====
/-
# The claims

The kernel and its idealization run on four devices and end quiescent with their argument unchanged; so does the reference
on one; the idealization changes no operation; and over the extended reals every device ends with the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.Equation

@[expose] public section

noncomputable section

namespace Cert.Proof

open Idealize.ShloMosaic Idealize.SL.Sem

/-- The kernel, on words, ends quiescent with its argument unchanged. -/
theorem kernel_quiescent : Cert.quiescent_Kernel := fun m ρ _ =>
  (θ_run _ _ _).mono (fun _ h => ⟨fun c => (h.1 c).2, h.2⟩) (Cert.KernelProof.run (F := Bits) m ρ)

/-- The kernel, on extended reals, ends quiescent with its argument unchanged. -/
theorem ideal_quiescent : Cert.quiescent_KernelIdeal := fun m ρ _ =>
  (θ_run _ _ _).mono (fun _ h => ⟨fun c => (h.1 c).2, h.2⟩) (Cert.KernelIdealProof.run (F := Ideal) m ρ)

/-- The reference ends quiescent with its argument unchanged. -/
theorem reference_quiescent : Cert.quiescent_ReferenceIdeal := fun m ρ _ =>
  (θ_run _ _ _).mono (fun _ h => ⟨fun c => (h.1 c).2, h.2⟩) (Cert.ReferenceIdealProof.run m ρ)

/-- Over the extended reals every device's result is the reference's. -/
theorem equal_results : Cert.algebraic_KernelIdeal_ReferenceIdeal := fun m ρ m' ρ' _ hx =>
  ⟨Cert.ReferenceIdealProof.result (m' (((0 : Dev Cert.ReferenceIdeal.nD).tc : Thread Cert.ReferenceIdeal.nD Cert.ReferenceIdeal.τ).loc Cert.ReferenceIdeal.main_arg0)),
    (θ_run _ _ _).mono (fun _ h c => ⟨(h.1 c).1.trans (Cert.Equation.outRow_eq m _ hx c), (h.1 c).2⟩) (Cert.KernelIdealProof.run (F := Ideal) m ρ),
    (θ_run _ _ _).mono (fun _ h => h.1 0) (Cert.ReferenceIdealProof.run m' ρ')⟩

theorem claim : Cert.Claim :=
  ⟨Cert.Kernel.Gen.facts, Cert.KernelIdeal.Gen.facts, Cert.ReferenceIdeal.Gen.facts,
    kernel_quiescent, ideal_quiescent, reference_quiescent, trivial, equal_results⟩

end Cert.Proof

end
